-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "ncali" .f32 0x3A83126F#32 ((1000⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v265) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x83 : Shape := ⟨2, ![1024, 83]⟩
abbrev S83x128 : Shape := ⟨2, ![83, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S100000x83 : Shape := ⟨2, ![100000, 83]⟩
abbrev S100000x128 : Shape := ⟨2, ![100000, 128]⟩
abbrev S100000x8 : Shape := ⟨2, ![100000, 8]⟩
abbrev S1000 : Shape := ⟨1, ![1000]⟩
abbrev S100000 : Shape := ⟨1, ![100000]⟩
abbrev S_ : Shape := ⟨0, ![]⟩

class Facts : Prop where
  bcast_S_S100000x83 : S_.BroadcastsInDim S100000x83 (![] : Fin 0 → Fin S100000x83.rank)
  bcast_S_S100000x128 : S_.BroadcastsInDim S100000x128 (![] : Fin 0 → Fin S100000x128.rank)
  bcast_S_S100000x8 : S_.BroadcastsInDim S100000x8 (![] : Fin 0 → Fin S100000x8.rank)

variable [Facts]

def fn {F : FTy → Type} [FloatOps F] (main_arg0 : FVec F S1024x83 .f32) (main_arg1 : FVec F S83x128 .f32) (main_arg2 : FVec F S128 .f32) (main_arg3 : FVec F S128x128 .f32) (main_arg4 : FVec F S128 .f32) (main_arg5 : FVec F S128x128 .f32) (main_arg6 : FVec F S128 .f32) (main_arg7 : FVec F S128x8 .f32) (main_arg8 : FVec F S8 .f32) (main_arg9 : FVec F S100000x83 .f32) (main_arg10 : FVec F S100000x128 .f32) (main_arg11 : FVec F S100000x128 .f32) (main_arg12 : FVec F S100000x128 .f32) (main_arg13 : FVec F S100000x8 .f32) (main_arg14 : FVec F S1000 .f32) (main_arg15 : IVec S100000 32) (main_arg16 : IVec S8 32) : IVec S100000x83 1 × IVec S100000x128 1 × IVec S100000x128 1 × IVec S100000x128 1 × IVec S100000x8 1 :=
  let main_v0 : FVec F S100000x83 .f32 := Host.absf main_arg9
  let main_cst : FVec F S_ .f32 := constant S_ .f32 0x7F800000#32
  let main_v1 : FVec F S100000x83 .f32 := broadcastInDim S100000x83 ![] bcast_S_S100000x83 main_cst
  let main_v2 : IVec S100000x83 1 := cmpf .olt main_v0 main_v1
  let main_v3 : FVec F S100000x128 .f32 := Host.absf main_arg10
  let main_cst_0 : FVec F S_ .f32 := constant S_ .f32 0x7F800000#32
  let main_v4 : FVec F S100000x128 .f32 := broadcastInDim S100000x128 ![] bcast_S_S100000x128 main_cst_0
  let main_v5 : IVec S100000x128 1 := cmpf .olt main_v3 main_v4
  let main_v6 : FVec F S100000x128 .f32 := Host.absf main_arg11
  let main_cst_1 : FVec F S_ .f32 := constant S_ .f32 0x7F800000#32
  let main_v7 : FVec F S100000x128 .f32 := broadcastInDim S100000x128 ![] bcast_S_S100000x128 main_cst_1
  let main_v8 : IVec S100000x128 1 := cmpf .olt main_v6 main_v7
  let main_v9 : FVec F S100000x128 .f32 := Host.absf main_arg12
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_v12 : FVec F S100000x8 .f32 := Host.absf main_arg13
  let main_cst_3 : FVec F S_ .f32 := constant S_ .f32 0x7F800000#32
  let main_v13 : FVec F S100000x8 .f32 := broadcastInDim S100000x8 ![] bcast_S_S100000x8 main_cst_3
  let main_v14 : IVec S100000x8 1 := cmpf .olt main_v12 main_v13
  (main_v2, main_v5, main_v8, main_v11, main_v14)
-- ==== Kernel.lean ====
abbrev S1024x83 : Shape := ⟨2, ![1024, 83]⟩
abbrev S83x128 : Shape := ⟨2, ![83, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S100000x83 : Shape := ⟨2, ![100000, 83]⟩
abbrev S100000x128 : Shape := ⟨2, ![100000, 128]⟩
abbrev S100000x8 : Shape := ⟨2, ![100000, 8]⟩
abbrev S1000 : Shape := ⟨1, ![1000]⟩
abbrev S100000 : Shape := ⟨1, ![100000]⟩
abbrev S1x128 : Shape := ⟨2, ![1, 128]⟩
abbrev S1x8 : Shape := ⟨2, ![1, 8]⟩
abbrev S1024x128 : Shape := ⟨2, ![1024, 128]⟩
abbrev S1024x8 : Shape := ⟨2, ![1024, 8]⟩
abbrev S1024 : Shape := ⟨1, ![1024]⟩
abbrev S1024x1 : Shape := ⟨2, ![1024, 1]⟩
abbrev S_ : Shape := ⟨0, ![]⟩
abbrev S100352x83 : Shape := ⟨2, ![100352, 83]⟩
abbrev S1024x100352 : Shape := ⟨2, ![1024, 100352]⟩
abbrev S2048x83 : Shape := ⟨2, ![2048, 83]⟩
abbrev S1024x2048 : Shape := ⟨2, ![1024, 2048]⟩
abbrev S2048 : Shape := ⟨1, ![2048]⟩
abbrev S1x2048 : Shape := ⟨2, ![1, 2048]⟩
abbrev S1024x75 : Shape := ⟨2, ![1024, 75]⟩
abbrev S1024x75x1 : Shape := ⟨3, ![1024, 75, 1]⟩
abbrev S100352x128 : Shape := ⟨2, ![100352, 128]⟩
abbrev S2048x128 : Shape := ⟨2, ![2048, 128]⟩
abbrev S100352x8 : Shape := ⟨2, ![100352, 8]⟩
abbrev S2048x8 : Shape := ⟨2, ![2048, 8]⟩
abbrev S1x1024 : Shape := ⟨2, ![1, 1024]⟩
abbrev S1 : Shape := ⟨1, ![1]⟩
abbrev S2 : Shape := ⟨1, ![2]⟩
abbrev S1x1 : Shape := ⟨2, ![1, 1]⟩
abbrev S1024x1024 : Shape := ⟨2, ![1024, 1024]⟩

abbrev nBuf : Space → Nat
  | .hbm => 110
  | .vmem => 51
  | .smem => 0
  | _ => 0

abbrev bufTy : (tb : Table) → Fin (tcTables nBuf tb) → BufTy
  | .hbm, ⟨0, _⟩ => ⟨S1024x83, .f32⟩
  | .hbm, ⟨1, _⟩ => ⟨S83x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x8, .f32⟩
  | .hbm, ⟨8, _⟩ => ⟨S8, .f32⟩
  | .hbm, ⟨9, _⟩ => ⟨S100000x83, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S100000x8, .f32⟩
  | .hbm, ⟨14, _⟩ => ⟨S1000, .f32⟩
  | .hbm, ⟨15, _⟩ => ⟨S100000, .i32⟩
  | .hbm, ⟨16, _⟩ => ⟨S8, .i32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x8, .f32⟩
  | .hbm, ⟨21, _⟩ => ⟨S1024x128, .f32⟩
  | .hbm, ⟨22, _⟩ => ⟨S1024x128, .f32⟩
  | .hbm, ⟨23, _⟩ => ⟨S1024x128, .f32⟩
  | .hbm, ⟨24, _⟩ => ⟨S1024x8, .f32⟩
  | .hbm, ⟨25, _⟩ => ⟨S_, .i32⟩
  | .hbm, ⟨26, _⟩ => ⟨S_, .f32⟩
  | .hbm, ⟨27, _⟩ => ⟨S100352x83, .f32⟩
  | .hbm, ⟨28, _⟩ => ⟨S1024x100352, .f32⟩
  | .hbm, ⟨29, _⟩ => ⟨S1024x75, .f32⟩
  | .hbm, ⟨30, _⟩ => ⟨S1024x75, .i32⟩
  | .hbm, ⟨31, _⟩ => ⟨S_, .i32⟩
  | .hbm, ⟨32, _⟩ => ⟨S1024x75, .i32⟩
  | .hbm, ⟨33, _⟩ => ⟨S1024x75, .i1⟩
  | .hbm, ⟨34, _⟩ => ⟨S_, .i32⟩
  | .hbm, ⟨35, _⟩ => ⟨S1024x75, .i32⟩
  | .hbm, ⟨36, _⟩ => ⟨S1024x75, .i32⟩
  | .hbm, ⟨37, _⟩ => ⟨S1024x75, .i32⟩
  | .hbm, ⟨38, _⟩ => ⟨S1024x75x1, .i32⟩
  | .hbm, ⟨39, _⟩ => ⟨S1024x75, .i32⟩
  | .hbm, ⟨40, _⟩ => ⟨S_, .i32⟩
  | .hbm, ⟨41, _⟩ => ⟨S_, .f32⟩
  | .hbm, ⟨42, _⟩ => ⟨S100352x128, .f32⟩
  | .hbm, ⟨43, _⟩ => ⟨S1024x100352, .f32⟩
  | .hbm, ⟨44, _⟩ => ⟨S1024x75, .f32⟩
  | .hbm, ⟨45, _⟩ => ⟨S1024x75, .i32⟩
  | .hbm, ⟨46, _⟩ => ⟨S_, .i32⟩
  | .hbm, ⟨47, _⟩ => ⟨S1024x75, .i32⟩
  | .hbm, ⟨48, _⟩ => ⟨S1024x75, .i1⟩
  | .hbm, ⟨49, _⟩ => ⟨S_, .i32⟩
  | .hbm, ⟨50, _⟩ => ⟨S1024x75, .i32⟩
  | .hbm, ⟨51, _⟩ => ⟨S1024x75, .i32⟩
  | .hbm, ⟨52, _⟩ => ⟨S1024x75, .i32⟩
  | .hbm, ⟨53, _⟩ => ⟨S1024x75x1, .i32⟩
  | .hbm, ⟨54, _⟩ => ⟨S1024x75, .i32⟩
  | .hbm, ⟨55, _⟩ => ⟨S_, .i32⟩
  | .hbm, ⟨56, _⟩ => ⟨S_, .f32⟩
  | .hbm, ⟨57, _⟩ => ⟨S100352x128, .f32⟩
  | .hbm, ⟨58, _⟩ => ⟨S1024x100352, .f32⟩
  | .hbm, ⟨59, _⟩ => ⟨S1024x75, .f32⟩
  | .hbm, ⟨60, _⟩ => ⟨S1024x75, .i32⟩
  | .hbm, ⟨61, _⟩ => ⟨S_, .i32⟩
  | .hbm, ⟨62, _⟩ => ⟨S1024x75, .i32⟩
  | .hbm, ⟨63, _⟩ => ⟨S1024x75, .i1⟩
  | .hbm, ⟨64, _⟩ => ⟨S_, .i32⟩
  | .hbm, ⟨65, _⟩ => ⟨S1024x75, .i32⟩
  | .hbm, ⟨66, _⟩ => ⟨S1024x75, .i32⟩
  | .hbm, ⟨67, _⟩ => ⟨S1024x75, .i32⟩
  | .hbm, ⟨68, _⟩ => ⟨S1024x75x1, .i32⟩
  | .hbm, ⟨69, _⟩ => ⟨S1024x75, .i32⟩
  | .hbm, ⟨70, _⟩ => ⟨S_, .i32⟩
  | .hbm, ⟨71, _⟩ => ⟨S_, .f32⟩
  | .hbm, ⟨72, _⟩ => ⟨S100352x128, .f32⟩
  | .hbm, ⟨73, _⟩ => ⟨S1024x100352, .f32⟩
  | .hbm, ⟨74, _⟩ => ⟨S1024x75, .f32⟩
  | .hbm, ⟨75, _⟩ => ⟨S1024x75, .i32⟩
  | .hbm, ⟨76, _⟩ => ⟨S_, .i32⟩
  | .hbm, ⟨77, _⟩ => ⟨S1024x75, .i32⟩
  | .hbm, ⟨78, _⟩ => ⟨S1024x75, .i1⟩
  | .hbm, ⟨79, _⟩ => ⟨S_, .i32⟩
  | .hbm, ⟨80, _⟩ => ⟨S1024x75, .i32⟩
  | .hbm, ⟨81, _⟩ => ⟨S1024x75, .i32⟩
  | .hbm, ⟨82, _⟩ => ⟨S1024x75, .i32⟩
  | .hbm, ⟨83, _⟩ => ⟨S1024x75x1, .i32⟩
  | .hbm, ⟨84, _⟩ => ⟨S1024x75, .i32⟩
  | .hbm, ⟨85, _⟩ => ⟨S_, .i32⟩
  | .hbm, ⟨86, _⟩ => ⟨S_, .f32⟩
  | .hbm, ⟨87, _⟩ => ⟨S100352x8, .f32⟩
  | .hbm, ⟨88, _⟩ => ⟨S1024x100352, .f32⟩
  | .hbm, ⟨89, _⟩ => ⟨S1024x75, .f32⟩
  | .hbm, ⟨90, _⟩ => ⟨S1024x75, .i32⟩
  | .hbm, ⟨91, _⟩ => ⟨S_, .i32⟩
  | .hbm, ⟨92, _⟩ => ⟨S1024x75, .i32⟩
  | .hbm, ⟨93, _⟩ => ⟨S1024x75, .i1⟩
  | .hbm, ⟨94, _⟩ => ⟨S_, .i32⟩
  | .hbm, ⟨95, _⟩ => ⟨S1024x75, .i32⟩
  | .hbm, ⟨96, _⟩ => ⟨S1024x75, .i32⟩
  | .hbm, ⟨97, _⟩ => ⟨S1024x75, .i32⟩
  | .hbm, ⟨98, _⟩ => ⟨S1024x75x1, .i32⟩
  | .hbm, ⟨99, _⟩ => ⟨S1024x75, .i32⟩
  | .hbm, ⟨100, _⟩ => ⟨S_, .f32⟩
  | .hbm, ⟨101, _⟩ => ⟨S1x1024, .f32⟩
  | .hbm, ⟨102, _⟩ => ⟨S_, .i32⟩
  | .hbm, ⟨103, _⟩ => ⟨S1, .i32⟩
  | .hbm, ⟨104, _⟩ => ⟨S_, .i32⟩
  | .hbm, ⟨105, _⟩ => ⟨S1, .i32⟩
  | .hbm, ⟨106, _⟩ => ⟨S2, .i32⟩
  | .hbm, ⟨107, _⟩ => ⟨S1x1024, .f32⟩
  | .hbm, ⟨108, _⟩ => ⟨S1x8, .i32⟩
  | .hbm, ⟨109, _⟩ => ⟨S1024x8, .f32⟩
  | .local _ .vmem, ⟨0, _⟩ => ⟨S1024x83, .f32⟩
  | .local _ .vmem, ⟨1, _⟩ => ⟨S83x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x8, .f32⟩
  | .local _ .vmem, ⟨8, _⟩ => ⟨S1x8, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x8, .f32⟩
  | .local _ .vmem, ⟨13, _⟩ => ⟨S1024x83, .f32⟩
  | .local _ .vmem, ⟨14, _⟩ => ⟨S2048x83, .f32⟩
  | .local _ .vmem, ⟨15, _⟩ => ⟨S2048x83, .f32⟩
  | .local _ .vmem, ⟨16, _⟩ => ⟨S1024x2048, .f32⟩
  | .local _ .vmem, ⟨17, _⟩ => ⟨S1024x2048, .f32⟩
  | .local _ .vmem, ⟨18, _⟩ => ⟨S1024x128, .f32⟩
  | .local _ .vmem, ⟨19, _⟩ => ⟨S2048x128, .f32⟩
  | .local _ .vmem, ⟨20, _⟩ => ⟨S2048x128, .f32⟩
  | .local _ .vmem, ⟨21, _⟩ => ⟨S1024x2048, .f32⟩
  | .local _ .vmem, ⟨22, _⟩ => ⟨S1024x2048, .f32⟩
  | .local _ .vmem, ⟨23, _⟩ => ⟨S1024x128, .f32⟩
  | .local _ .vmem, ⟨24, _⟩ => ⟨S2048x128, .f32⟩
  | .local _ .vmem, ⟨25, _⟩ => ⟨S2048x128, .f32⟩
  | .local _ .vmem, ⟨26, _⟩ => ⟨S1024x2048, .f32⟩
  | .local _ .vmem, ⟨27, _⟩ => ⟨S1024x2048, .f32⟩
  | .local _ .vmem, ⟨28, _⟩ => ⟨S1024x128, .f32⟩
  | .local _ .vmem, ⟨29, _⟩ => ⟨S2048x128, .f32⟩
  | .local _ .vmem, ⟨30, _⟩ => ⟨S2048x128, .f32⟩
  | .local _ .vmem, ⟨31, _⟩ => ⟨S1024x2048, .f32⟩
  | .local _ .vmem, ⟨32, _⟩ => ⟨S1024x2048, .f32⟩
  | .local _ .vmem, ⟨33, _⟩ => ⟨S1024x8, .f32⟩
  | .local _ .vmem, ⟨34, _⟩ => ⟨S2048x8, .f32⟩
  | .local _ .vmem, ⟨35, _⟩ => ⟨S2048x8, .f32⟩
  | .local _ .vmem, ⟨36, _⟩ => ⟨S1024x2048, .f32⟩
  | .local _ .vmem, ⟨37, _⟩ => ⟨S1024x2048, .f32⟩
  | .local _ .vmem, ⟨38, _⟩ => ⟨S1x1024, .f32⟩
  | .local _ .vmem, ⟨39, _⟩ => ⟨S1x8, .i32⟩
  | .local _ .vmem, ⟨40, _⟩ => ⟨S1024x75, .f32⟩
  | .local _ .vmem, ⟨41, _⟩ => ⟨S1024x75, .i32⟩
  | .local _ .vmem, ⟨42, _⟩ => ⟨S1024x75, .f32⟩
  | .local _ .vmem, ⟨43, _⟩ => ⟨S1024x75, .i32⟩
  | .local _ .vmem, ⟨44, _⟩ => ⟨S1024x75, .f32⟩
  | .local _ .vmem, ⟨45, _⟩ => ⟨S1024x75, .i32⟩
  | .local _ .vmem, ⟨46, _⟩ => ⟨S1024x75, .f32⟩
  | .local _ .vmem, ⟨47, _⟩ => ⟨S1024x75, .i32⟩
  | .local _ .vmem, ⟨48, _⟩ => ⟨S1024x75, .f32⟩
  | .local _ .vmem, ⟨49, _⟩ => ⟨S1024x75, .i32⟩
  | .local _ .vmem, ⟨50, _⟩ => ⟨S1024x8, .f32⟩
  | _, _ => ⟨S1024x83, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4_0 : Ref sig .tc := ⟨.hbm, 21, rfl⟩
abbrev main_v4_1 : Ref sig .tc := ⟨.hbm, 22, rfl⟩
abbrev main_v4_2 : Ref sig .tc := ⟨.hbm, 23, rfl⟩
abbrev main_v4_3 : Ref sig .tc := ⟨.hbm, 24, rfl⟩
abbrev main_c : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_values : Ref sig .tc := ⟨.hbm, 29, rfl⟩
abbrev main_indices : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_call1_v0 : Ref sig .tc := ⟨.hbm, 41, rfl⟩
abbrev main_v14 : Ref sig .tc := ⟨.hbm, 42, rfl⟩
abbrev main_v15 : Ref sig .tc := ⟨.hbm, 43, rfl⟩
abbrev main_values_3 : Ref sig .tc := ⟨.hbm, 44, rfl⟩
abbrev main_indices_4 : Ref sig .tc := ⟨.hbm, 45, rfl⟩
abbrev main_c_5 : Ref sig .tc := ⟨.hbm, 46, rfl⟩
abbrev main_v16 : Ref sig .tc := ⟨.hbm, 47, rfl⟩
abbrev main_v17 : Ref sig .tc := ⟨.hbm, 48, rfl⟩
abbrev main_c_6 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_7 : Ref sig .tc := ⟨.hbm, 55, rfl⟩
abbrev main_call2_v0 : Ref sig .tc := ⟨.hbm, 56, rfl⟩
abbrev main_v23 : Ref sig .tc := ⟨.hbm, 57, rfl⟩
abbrev main_v24 : Ref sig .tc := ⟨.hbm, 58, rfl⟩
abbrev main_values_8 : Ref sig .tc := ⟨.hbm, 59, rfl⟩
abbrev main_indices_9 : Ref sig .tc := ⟨.hbm, 60, rfl⟩
abbrev main_c_10 : Ref sig .tc := ⟨.hbm, 61, rfl⟩
abbrev main_v25 : Ref sig .tc := ⟨.hbm, 62, rfl⟩
abbrev main_v26 : Ref sig .tc := ⟨.hbm, 63, rfl⟩
abbrev main_c_11 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_12 : Ref sig .tc := ⟨.hbm, 70, rfl⟩
abbrev main_call3_v0 : Ref sig .tc := ⟨.hbm, 71, rfl⟩
abbrev main_v32 : Ref sig .tc := ⟨.hbm, 72, rfl⟩
abbrev main_v33 : Ref sig .tc := ⟨.hbm, 73, rfl⟩
abbrev main_values_13 : Ref sig .tc := ⟨.hbm, 74, rfl⟩
abbrev main_indices_14 : Ref sig .tc := ⟨.hbm, 75, rfl⟩
abbrev main_c_15 : Ref sig .tc := ⟨.hbm, 76, rfl⟩
abbrev main_v34 : Ref sig .tc := ⟨.hbm, 77, rfl⟩
abbrev main_v35 : Ref sig .tc := ⟨.hbm, 78, rfl⟩
abbrev main_c_16 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_c_17 : Ref sig .tc := ⟨.hbm, 85, rfl⟩
abbrev main_call4_v0 : Ref sig .tc := ⟨.hbm, 86, rfl⟩
abbrev main_v41 : Ref sig .tc := ⟨.hbm, 87, rfl⟩
abbrev main_v42 : Ref sig .tc := ⟨.hbm, 88, rfl⟩
abbrev main_values_18 : Ref sig .tc := ⟨.hbm, 89, rfl⟩
abbrev main_indices_19 : Ref sig .tc := ⟨.hbm, 90, rfl⟩
abbrev main_c_20 : Ref sig .tc := ⟨.hbm, 91, rfl⟩
abbrev main_v43 : Ref sig .tc := ⟨.hbm, 92, rfl⟩
abbrev main_v44 : Ref sig .tc := ⟨.hbm, 93, rfl⟩
abbrev main_c_21 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst : Ref sig .tc := ⟨.hbm, 100, rfl⟩
abbrev main_v50 : Ref sig .tc := ⟨.hbm, 101, rfl⟩
abbrev main_c_22 : Ref sig .tc := ⟨.hbm, 102, rfl⟩
abbrev main_v51 : Ref sig .tc := ⟨.hbm, 103, rfl⟩
abbrev main_c_23 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg4_0 : Ref sig .tc := ⟨.vmem, 42, rfl⟩
abbrev cc6_stg5_0 : Ref sig .tc := ⟨.vmem, 43, rfl⟩
abbrev cc6_stg6_0 : Ref sig .tc := ⟨.vmem, 44, rfl⟩
abbrev cc6_stg7_0 : Ref sig .tc := ⟨.vmem, 45, rfl⟩
abbrev cc6_stg8_0 : Ref sig .tc := ⟨.vmem, 46, rfl⟩
abbrev cc6_stg9_0 : Ref sig .tc := ⟨.vmem, 47, rfl⟩
abbrev cc6_stg10_0 : Ref sig .tc := ⟨.vmem, 48, rfl⟩
abbrev cc6_stg11_0 : Ref sig .tc := ⟨.vmem, 49, rfl⟩
abbrev cc6_stg12_0 : Ref sig .tc := ⟨.vmem, 50, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem2_1 : DmaSem sig := 32
abbrev cc5_sem0_0 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem1_0 : DmaSem sig := 39
abbrev cc6_sem2_0 : DmaSem sig := 40
abbrev cc6_sem3_0 : DmaSem sig := 41
abbrev cc6_sem4_0 : DmaSem sig := 42
abbrev cc6_sem5_0 : DmaSem sig := 43
abbrev cc6_sem6_0 : DmaSem sig := 44
abbrev cc6_sem7_0 : DmaSem sig := 45
abbrev cc6_sem8_0 : DmaSem sig := 46
abbrev cc6_sem9_0 : DmaSem sig := 47
abbrev cc6_sem10_0 : DmaSem sig := 48
abbrev cc6_sem11_0 : DmaSem sig := 49
abbrev cc6_sem12_0 : DmaSem sig := 50

abbrev nD : Nat := 1
abbrev τ : Topo := Topo.v7x

variable {F : FTy → Type} [FloatOps F]

abbrev grid0 : Pipeline.Grid := .none

abbrev stage0_0 : Fin 1 → Memref sig .tc .vmem S1024x83 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S83x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x83 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x83 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1024x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![49], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1024x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![49], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S1024x8 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S2048x8 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1024x2048 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := .none

abbrev stage6_0 : Fin 1 → Memref sig .tc .vmem S1x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1x8 .i32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S1024x75 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1024x75 .i32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S1024x75 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S1024x75 .i32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S1024x75 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev stage6_7 : Fin 1 → Memref sig .tc .vmem S1024x75 .i32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))

abbrev stage6_8 : Fin 1 → Memref sig .tc .vmem S1024x75 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))

abbrev stage6_9 : Fin 1 → Memref sig .tc .vmem S1024x75 .i32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))

abbrev stage6_10 : Fin 1 → Memref sig .tc .vmem S1024x75 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))

abbrev stage6_11 : Fin 1 → Memref sig .tc .vmem S1024x75 .i32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))

abbrev stage6_12 : Fin 1 → Memref sig .tc .vmem S1024x8 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
-- ==== KernelIdeal.lean ====
variable {F : FTy → Type} [FloatOps F] [Named F]
def κ : String → Option EReal := fun
  | "ncali" => some ((1000⁻¹ : ℝ) : EReal)
  | _ => none
-- ==== ReferenceIdeal.lean ====
abbrev S1024x83 : Shape := ⟨2, ![1024, 83]⟩
abbrev S83x128 : Shape := ⟨2, ![83, 128]⟩
abbrev S128 : Shape := ⟨1, ![128]⟩
abbrev S128x128 : Shape := ⟨2, ![128, 128]⟩
abbrev S128x8 : Shape := ⟨2, ![128, 8]⟩
abbrev S8 : Shape := ⟨1, ![8]⟩
abbrev S100000x83 : Shape := ⟨2, ![100000, 83]⟩
abbrev S100000x128 : Shape := ⟨2, ![100000, 128]⟩
abbrev S100000x8 : Shape := ⟨2, ![100000, 8]⟩
abbrev S1000 : Shape := ⟨1, ![1000]⟩
abbrev S100000 : Shape := ⟨1, ![100000]⟩
abbrev S_ : Shape := ⟨0, ![]⟩
abbrev S1024 : Shape := ⟨1, ![1024]⟩
abbrev S1024x1 : Shape := ⟨2, ![1024, 1]⟩
abbrev S1x100000 : Shape := ⟨2, ![1, 100000]⟩
abbrev S1024x100000 : Shape := ⟨2, ![1024, 100000]⟩
abbrev S83x100000 : Shape := ⟨2, ![83, 100000]⟩
abbrev S1024x75 : Shape := ⟨2, ![1024, 75]⟩
abbrev S1024x75x1 : Shape := ⟨3, ![1024, 75, 1]⟩
abbrev S1x1x8 : Shape := ⟨3, ![1, 1, 8]⟩
abbrev S1024x75x8 : Shape := ⟨3, ![1024, 75, 8]⟩
abbrev S1024x8 : Shape := ⟨2, ![1024, 8]⟩
abbrev S1024x128 : Shape := ⟨2, ![1024, 128]⟩
abbrev S1x128 : Shape := ⟨2, ![1, 128]⟩
abbrev S128x100000 : Shape := ⟨2, ![128, 100000]⟩
abbrev S1x8 : Shape := ⟨2, ![1, 8]⟩
abbrev S8x100000 : Shape := ⟨2, ![8, 100000]⟩
abbrev S1024x1x8 : Shape := ⟨3, ![1024, 1, 8]⟩
abbrev S1024x5x8 : Shape := ⟨3, ![1024, 5, 8]⟩
abbrev S1x1x1000 : Shape := ⟨3, ![1, 1, 1000]⟩
abbrev S1024x8x1 : Shape := ⟨3, ![1024, 8, 1]⟩
abbrev S1024x8x1000 : Shape := ⟨3, ![1024, 8, 1000]⟩

abbrev nBuf : Space → Nat
  | .hbm => 385
  | .vmem => 0
  | .smem => 0
  | _ => 0

abbrev hbmTy0_0 (i : Nat) : BufTy := match i % 128 with
  | 0 => ⟨S1024x83, .f32⟩
  | 1 => ⟨S83x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S128x8, .f32⟩
  | 8 => ⟨S8, .f32⟩
  | 9 => ⟨S100000x83, .f32⟩
  | 10 => ⟨S100000x128, .f32⟩
  | 11 => ⟨S100000x128, .f32⟩
  | 12 => ⟨S100000x128, .f32⟩
  | 13 => ⟨S100000x8, .f32⟩
  | 14 => ⟨S1000, .f32⟩
  | 15 => ⟨S100000, .i32⟩
  | 16 => ⟨S8, .i32⟩
  | 17 => ⟨S1024x83, .f32⟩
  | 18 => ⟨S_, .f32⟩
  | 19 => ⟨S1024, .f32⟩
  | 20 => ⟨S1024x1, .f32⟩
  | 21 => ⟨S100000x83, .f32⟩
  | 22 => ⟨S_, .f32⟩
  | 23 => ⟨S100000, .f32⟩
  | 24 => ⟨S1x100000, .f32⟩
  | 25 => ⟨S1024x100000, .f32⟩
  | 26 => ⟨S1024x100000, .f32⟩
  | 27 => ⟨S1024x100000, .f32⟩
  | 28 => ⟨S83x100000, .f32⟩
  | 29 => ⟨S1024x100000, .f32⟩
  | 30 => ⟨S_, .f32⟩
  | 31 => ⟨S1024x100000, .f32⟩
  | 32 => ⟨S1024x100000, .f32⟩
  | 33 => ⟨S1024x100000, .f32⟩
  | 34 => ⟨S1024x100000, .f32⟩
  | 35 => ⟨S1024x75, .f32⟩
  | 36 => ⟨S1024x75, .i32⟩
  | 37 => ⟨S1024x75, .f32⟩
  | 38 => ⟨S_, .f32⟩
  | 39 => ⟨S1024x75, .f32⟩
  | 40 => ⟨S1024x75, .f32⟩
  | 41 => ⟨S_, .f32⟩
  | 42 => ⟨S1024x75, .f32⟩
  | 43 => ⟨S1024x75, .i1⟩
  | 44 => ⟨S_, .f32⟩
  | 45 => ⟨S_, .f32⟩
  | 46 => ⟨S1024x75, .f32⟩
  | 47 => ⟨S1024x75, .f32⟩
  | 48 => ⟨S_, .f32⟩
  | 49 => ⟨S1024x75, .f32⟩
  | 50 => ⟨S1024x75, .i1⟩
  | 51 => ⟨S1024x75, .f32⟩
  | 52 => ⟨S_, .f32⟩
  | 53 => ⟨S1024x75, .f32⟩
  | 54 => ⟨S1024x75, .f32⟩
  | 55 => ⟨S_, .f32⟩
  | 56 => ⟨S_, .f32⟩
  | 57 => ⟨S1024x75, .f32⟩
  | 58 => ⟨S1024x75, .f32⟩
  | 59 => ⟨S_, .i32⟩
  | 60 => ⟨S1024x75, .i32⟩
  | 61 => ⟨S1024x75, .i1⟩
  | 62 => ⟨S_, .i32⟩
  | 63 => ⟨S1024x75, .i32⟩
  | 64 => ⟨S1024x75, .i32⟩
  | 65 => ⟨S1024x75, .i32⟩
  | 66 => ⟨S1024x75x1, .i32⟩
  | 67 => ⟨S1024x75, .i32⟩
  | 68 => ⟨S1024x75x1, .i32⟩
  | 69 => ⟨S1x1x8, .i32⟩
  | 70 => ⟨S1024x75x8, .i32⟩
  | 71 => ⟨S1024x75x8, .i32⟩
  | 72 => ⟨S1024x75x8, .i1⟩
  | 73 => ⟨S1024x75x8, .f32⟩
  | 74 => ⟨S1024x75x1, .f32⟩
  | 75 => ⟨S1024x75x8, .f32⟩
  | 76 => ⟨S1024x75x8, .f32⟩
  | 77 => ⟨S_, .f32⟩
  | 78 => ⟨S1024x8, .f32⟩
  | 79 => ⟨S1024x128, .f32⟩
  | 80 => ⟨S1x128, .f32⟩
  | 81 => ⟨S1024x128, .f32⟩
  | 82 => ⟨S1024x128, .f32⟩
  | 83 => ⟨S_, .f32⟩
  | 84 => ⟨S1024x128, .f32⟩
  | 85 => ⟨S1024x128, .f32⟩
  | 86 => ⟨S1024x128, .f32⟩
  | 87 => ⟨S_, .f32⟩
  | 88 => ⟨S1024, .f32⟩
  | 89 => ⟨S1024x1, .f32⟩
  | 90 => ⟨S100000x128, .f32⟩
  | 91 => ⟨S_, .f32⟩
  | 92 => ⟨S100000, .f32⟩
  | 93 => ⟨S1x100000, .f32⟩
  | 94 => ⟨S1024x100000, .f32⟩
  | 95 => ⟨S1024x100000, .f32⟩
  | 96 => ⟨S1024x100000, .f32⟩
  | 97 => ⟨S128x100000, .f32⟩
  | 98 => ⟨S1024x100000, .f32⟩
  | 99 => ⟨S_, .f32⟩
  | 100 => ⟨S1024x100000, .f32⟩
  | 101 => ⟨S1024x100000, .f32⟩
  | 102 => ⟨S1024x100000, .f32⟩
  | 103 => ⟨S1024x100000, .f32⟩
  | 104 => ⟨S1024x75, .f32⟩
  | 105 => ⟨S1024x75, .i32⟩
  | 106 => ⟨S1024x75, .f32⟩
  | 107 => ⟨S_, .f32⟩
  | 108 => ⟨S1024x75, .f32⟩
  | 109 => ⟨S1024x75, .f32⟩
  | 110 => ⟨S_, .f32⟩
  | 111 => ⟨S1024x75, .f32⟩
  | 112 => ⟨S1024x75, .i1⟩
  | 113 => ⟨S_, .f32⟩
  | 114 => ⟨S_, .f32⟩
  | 115 => ⟨S1024x75, .f32⟩
  | 116 => ⟨S1024x75, .f32⟩
  | 117 => ⟨S_, .f32⟩
  | 118 => ⟨S1024x75, .f32⟩
  | 119 => ⟨S1024x75, .i1⟩
  | 120 => ⟨S1024x75, .f32⟩
  | 121 => ⟨S_, .f32⟩
  | 122 => ⟨S1024x75, .f32⟩
  | 123 => ⟨S1024x75, .f32⟩
  | 124 => ⟨S_, .f32⟩
  | 125 => ⟨S_, .f32⟩
  | 126 => ⟨S1024x75, .f32⟩
  | 127 => ⟨S1024x75, .f32⟩
  | _ => ⟨S1024x83, .f32⟩

abbrev hbmTy0_1 (i : Nat) : BufTy := match i % 128 with
  | 0 => ⟨S_, .i32⟩
  | 1 => ⟨S1024x75, .i32⟩
  | 2 => ⟨S1024x75, .i1⟩
  | 3 => ⟨S_, .i32⟩
  | 4 => ⟨S1024x75, .i32⟩
  | 5 => ⟨S1024x75, .i32⟩
  | 6 => ⟨S1024x75, .i32⟩
  | 7 => ⟨S1024x75x1, .i32⟩
  | 8 => ⟨S1024x75, .i32⟩
  | 9 => ⟨S1024x75x1, .i32⟩
  | 10 => ⟨S1x1x8, .i32⟩
  | 11 => ⟨S1024x75x8, .i32⟩
  | 12 => ⟨S1024x75x8, .i32⟩
  | 13 => ⟨S1024x75x8, .i1⟩
  | 14 => ⟨S1024x75x8, .f32⟩
  | 15 => ⟨S1024x75x1, .f32⟩
  | 16 => ⟨S1024x75x8, .f32⟩
  | 17 => ⟨S1024x75x8, .f32⟩
  | 18 => ⟨S_, .f32⟩
  | 19 => ⟨S1024x8, .f32⟩
  | 20 => ⟨S1024x128, .f32⟩
  | 21 => ⟨S1x128, .f32⟩
  | 22 => ⟨S1024x128, .f32⟩
  | 23 => ⟨S1024x128, .f32⟩
  | 24 => ⟨S_, .f32⟩
  | 25 => ⟨S1024x128, .f32⟩
  | 26 => ⟨S1024x128, .f32⟩
  | 27 => ⟨S1024x128, .f32⟩
  | 28 => ⟨S_, .f32⟩
  | 29 => ⟨S1024, .f32⟩
  | 30 => ⟨S1024x1, .f32⟩
  | 31 => ⟨S100000x128, .f32⟩
  | 32 => ⟨S_, .f32⟩
  | 33 => ⟨S100000, .f32⟩
  | 34 => ⟨S1x100000, .f32⟩
  | 35 => ⟨S1024x100000, .f32⟩
  | 36 => ⟨S1024x100000, .f32⟩
  | 37 => ⟨S1024x100000, .f32⟩
  | 38 => ⟨S128x100000, .f32⟩
  | 39 => ⟨S1024x100000, .f32⟩
  | 40 => ⟨S_, .f32⟩
  | 41 => ⟨S1024x100000, .f32⟩
  | 42 => ⟨S1024x100000, .f32⟩
  | 43 => ⟨S1024x100000, .f32⟩
  | 44 => ⟨S1024x100000, .f32⟩
  | 45 => ⟨S1024x75, .f32⟩
  | 46 => ⟨S1024x75, .i32⟩
  | 47 => ⟨S1024x75, .f32⟩
  | 48 => ⟨S_, .f32⟩
  | 49 => ⟨S1024x75, .f32⟩
  | 50 => ⟨S1024x75, .f32⟩
  | 51 => ⟨S_, .f32⟩
  | 52 => ⟨S1024x75, .f32⟩
  | 53 => ⟨S1024x75, .i1⟩
  | 54 => ⟨S_, .f32⟩
  | 55 => ⟨S_, .f32⟩
  | 56 => ⟨S1024x75, .f32⟩
  | 57 => ⟨S1024x75, .f32⟩
  | 58 => ⟨S_, .f32⟩
  | 59 => ⟨S1024x75, .f32⟩
  | 60 => ⟨S1024x75, .i1⟩
  | 61 => ⟨S1024x75, .f32⟩
  | 62 => ⟨S_, .f32⟩
  | 63 => ⟨S1024x75, .f32⟩
  | 64 => ⟨S1024x75, .f32⟩
  | 65 => ⟨S_, .f32⟩
  | 66 => ⟨S_, .f32⟩
  | 67 => ⟨S1024x75, .f32⟩
  | 68 => ⟨S1024x75, .f32⟩
  | 69 => ⟨S_, .i32⟩
  | 70 => ⟨S1024x75, .i32⟩
  | 71 => ⟨S1024x75, .i1⟩
  | 72 => ⟨S_, .i32⟩
  | 73 => ⟨S1024x75, .i32⟩
  | 74 => ⟨S1024x75, .i32⟩
  | 75 => ⟨S1024x75, .i32⟩
  | 76 => ⟨S1024x75x1, .i32⟩
  | 77 => ⟨S1024x75, .i32⟩
  | 78 => ⟨S1024x75x1, .i32⟩
  | 79 => ⟨S1x1x8, .i32⟩
  | 80 => ⟨S1024x75x8, .i32⟩
  | 81 => ⟨S1024x75x8, .i32⟩
  | 82 => ⟨S1024x75x8, .i1⟩
  | 83 => ⟨S1024x75x8, .f32⟩
  | 84 => ⟨S1024x75x1, .f32⟩
  | 85 => ⟨S1024x75x8, .f32⟩
  | 86 => ⟨S1024x75x8, .f32⟩
  | 87 => ⟨S_, .f32⟩
  | 88 => ⟨S1024x8, .f32⟩
  | 89 => ⟨S1024x128, .f32⟩
  | 90 => ⟨S1x128, .f32⟩
  | 91 => ⟨S1024x128, .f32⟩
  | 92 => ⟨S1024x128, .f32⟩
  | 93 => ⟨S_, .f32⟩
  | 94 => ⟨S1024x128, .f32⟩
  | 95 => ⟨S1024x128, .f32⟩
  | 96 => ⟨S1024x128, .f32⟩
  | 97 => ⟨S_, .f32⟩
  | 98 => ⟨S1024, .f32⟩
  | 99 => ⟨S1024x1, .f32⟩
  | 100 => ⟨S100000x128, .f32⟩
  | 101 => ⟨S_, .f32⟩
  | 102 => ⟨S100000, .f32⟩
  | 103 => ⟨S1x100000, .f32⟩
  | 104 => ⟨S1024x100000, .f32⟩
  | 105 => ⟨S1024x100000, .f32⟩
  | 106 => ⟨S1024x100000, .f32⟩
  | 107 => ⟨S128x100000, .f32⟩
  | 108 => ⟨S1024x100000, .f32⟩
  | 109 => ⟨S_, .f32⟩
  | 110 => ⟨S1024x100000, .f32⟩
  | 111 => ⟨S1024x100000, .f32⟩
  | 112 => ⟨S1024x100000, .f32⟩
  | 113 => ⟨S1024x100000, .f32⟩
  | 114 => ⟨S1024x75, .f32⟩
  | 115 => ⟨S1024x75, .i32⟩
  | 116 => ⟨S1024x75, .f32⟩
  | 117 => ⟨S_, .f32⟩
  | 118 => ⟨S1024x75, .f32⟩
  | 119 => ⟨S1024x75, .f32⟩
  | 120 => ⟨S_, .f32⟩
  | 121 => ⟨S1024x75, .f32⟩
  | 122 => ⟨S1024x75, .i1⟩
  | 123 => ⟨S_, .f32⟩
  | 124 => ⟨S_, .f32⟩
  | 125 => ⟨S1024x75, .f32⟩
  | 126 => ⟨S1024x75, .f32⟩
  | 127 => ⟨S_, .f32⟩
  | _ => ⟨S1024x83, .f32⟩

abbrev hbmTy0_2 (i : Nat) : BufTy := match i % 128 with
  | 0 => ⟨S1024x75, .f32⟩
  | 1 => ⟨S1024x75, .i1⟩
  | 2 => ⟨S1024x75, .f32⟩
  | 3 => ⟨S_, .f32⟩
  | 4 => ⟨S1024x75, .f32⟩
  | 5 => ⟨S1024x75, .f32⟩
  | 6 => ⟨S_, .f32⟩
  | 7 => ⟨S_, .f32⟩
  | 8 => ⟨S1024x75, .f32⟩
  | 9 => ⟨S1024x75, .f32⟩
  | 10 => ⟨S_, .i32⟩
  | 11 => ⟨S1024x75, .i32⟩
  | 12 => ⟨S1024x75, .i1⟩
  | 13 => ⟨S_, .i32⟩
  | 14 => ⟨S1024x75, .i32⟩
  | 15 => ⟨S1024x75, .i32⟩
  | 16 => ⟨S1024x75, .i32⟩
  | 17 => ⟨S1024x75x1, .i32⟩
  | 18 => ⟨S1024x75, .i32⟩
  | 19 => ⟨S1024x75x1, .i32⟩
  | 20 => ⟨S1x1x8, .i32⟩
  | 21 => ⟨S1024x75x8, .i32⟩
  | 22 => ⟨S1024x75x8, .i32⟩
  | 23 => ⟨S1024x75x8, .i1⟩
  | 24 => ⟨S1024x75x8, .f32⟩
  | 25 => ⟨S1024x75x1, .f32⟩
  | 26 => ⟨S1024x75x8, .f32⟩
  | 27 => ⟨S1024x75x8, .f32⟩
  | 28 => ⟨S_, .f32⟩
  | 29 => ⟨S1024x8, .f32⟩
  | 30 => ⟨S1024x8, .f32⟩
  | 31 => ⟨S1x8, .f32⟩
  | 32 => ⟨S1024x8, .f32⟩
  | 33 => ⟨S1024x8, .f32⟩
  | 34 => ⟨S_, .f32⟩
  | 35 => ⟨S1024, .f32⟩
  | 36 => ⟨S_, .f32⟩
  | 37 => ⟨S1024, .f32⟩
  | 38 => ⟨S1024, .f32⟩
  | 39 => ⟨S1024x1, .f32⟩
  | 40 => ⟨S1024x8, .f32⟩
  | 41 => ⟨S1024x8, .f32⟩
  | 42 => ⟨S1024x8, .f32⟩
  | 43 => ⟨S_, .f32⟩
  | 44 => ⟨S1024, .f32⟩
  | 45 => ⟨S1024x1, .f32⟩
  | 46 => ⟨S1024x8, .f32⟩
  | 47 => ⟨S1024x8, .f32⟩
  | 48 => ⟨S1024x8, .f32⟩
  | 49 => ⟨S_, .f32⟩
  | 50 => ⟨S1024, .f32⟩
  | 51 => ⟨S1024x1, .f32⟩
  | 52 => ⟨S100000x8, .f32⟩
  | 53 => ⟨S_, .f32⟩
  | 54 => ⟨S100000, .f32⟩
  | 55 => ⟨S1x100000, .f32⟩
  | 56 => ⟨S1024x100000, .f32⟩
  | 57 => ⟨S1024x100000, .f32⟩
  | 58 => ⟨S1024x100000, .f32⟩
  | 59 => ⟨S8x100000, .f32⟩
  | 60 => ⟨S1024x100000, .f32⟩
  | 61 => ⟨S_, .f32⟩
  | 62 => ⟨S1024x100000, .f32⟩
  | 63 => ⟨S1024x100000, .f32⟩
  | 64 => ⟨S1024x100000, .f32⟩
  | 65 => ⟨S1024x100000, .f32⟩
  | 66 => ⟨S1024x75, .f32⟩
  | 67 => ⟨S1024x75, .i32⟩
  | 68 => ⟨S1024x75, .f32⟩
  | 69 => ⟨S_, .f32⟩
  | 70 => ⟨S1024x75, .f32⟩
  | 71 => ⟨S1024x75, .f32⟩
  | 72 => ⟨S_, .f32⟩
  | 73 => ⟨S1024x75, .f32⟩
  | 74 => ⟨S1024x75, .i1⟩
  | 75 => ⟨S_, .f32⟩
  | 76 => ⟨S_, .f32⟩
  | 77 => ⟨S1024x75, .f32⟩
  | 78 => ⟨S1024x75, .f32⟩
  | 79 => ⟨S_, .f32⟩
  | 80 => ⟨S1024x75, .f32⟩
  | 81 => ⟨S1024x75, .i1⟩
  | 82 => ⟨S1024x75, .f32⟩
  | 83 => ⟨S_, .f32⟩
  | 84 => ⟨S1024x75, .f32⟩
  | 85 => ⟨S1024x75, .f32⟩
  | 86 => ⟨S_, .f32⟩
  | 87 => ⟨S_, .f32⟩
  | 88 => ⟨S1024x75, .f32⟩
  | 89 => ⟨S1024x75, .f32⟩
  | 90 => ⟨S_, .i32⟩
  | 91 => ⟨S1024x75, .i32⟩
  | 92 => ⟨S1024x75, .i1⟩
  | 93 => ⟨S_, .i32⟩
  | 94 => ⟨S1024x75, .i32⟩
  | 95 => ⟨S1024x75, .i32⟩
  | 96 => ⟨S1024x75, .i32⟩
  | 97 => ⟨S1024x75x1, .i32⟩
  | 98 => ⟨S1024x75, .i32⟩
  | 99 => ⟨S1024x75x1, .i32⟩
  | 100 => ⟨S1x1x8, .i32⟩
  | 101 => ⟨S1024x75x8, .i32⟩
  | 102 => ⟨S1024x75x8, .i32⟩
  | 103 => ⟨S1024x75x8, .i1⟩
  | 104 => ⟨S1024x75x8, .f32⟩
  | 105 => ⟨S1024x75x1, .f32⟩
  | 106 => ⟨S1024x75x8, .f32⟩
  | 107 => ⟨S1024x75x8, .f32⟩
  | 108 => ⟨S_, .f32⟩
  | 109 => ⟨S1024x8, .f32⟩
  | 110 => ⟨S1024x1x8, .f32⟩
  | 111 => ⟨S1024x1x8, .f32⟩
  | 112 => ⟨S1024x1x8, .f32⟩
  | 113 => ⟨S1024x1x8, .f32⟩
  | 114 => ⟨S1024x1x8, .f32⟩
  | 115 => ⟨S1024x5x8, .f32⟩
  | 116 => ⟨S_, .f32⟩
  | 117 => ⟨S1024x8, .f32⟩
  | 118 => ⟨S1x1x1000, .f32⟩
  | 119 => ⟨S1024x8x1, .f32⟩
  | 120 => ⟨S1024x8x1000, .f32⟩
  | 121 => ⟨S1024x8x1000, .f32⟩
  | 122 => ⟨S1024x8x1000, .i1⟩
  | 123 => ⟨S1024x8x1000, .f32⟩
  | 124 => ⟨S_, .f32⟩
  | 125 => ⟨S1024x8, .f32⟩
  | 126 => ⟨S_, .f32⟩
  | 127 => ⟨S1024x8, .f32⟩
  | _ => ⟨S1024x83, .f32⟩

abbrev hbmTy0_3 (i : Nat) : BufTy := match i % 128 with
  | 0 => ⟨S1024x8, .f32⟩
  | _ => ⟨S1024x83, .f32⟩

abbrev hbmTy (i : Nat) : BufTy := match i / 128 with
  | 0 => hbmTy0_0 i
  | 1 => hbmTy0_1 i
  | 2 => hbmTy0_2 i
  | 3 => hbmTy0_3 i
  | _ => ⟨S1024x83, .f32⟩

abbrev bufTy : (tb : Table) → Fin (tcTables nBuf tb) → BufTy
  | .hbm, ⟨i, _⟩ => hbmTy i
  | _, _ => ⟨S1024x83, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_values : Ref sig .tc := ⟨.hbm, 35, rfl⟩
abbrev main_indices : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_cst_4 : Ref sig .tc := ⟨.hbm, 44, rfl⟩
abbrev main_call0_v0 : Ref sig .tc := ⟨.hbm, 45, rfl⟩
abbrev main_call0_v1 : Ref sig .tc := ⟨.hbm, 46, rfl⟩
abbrev main_v20 : Ref sig .tc := ⟨.hbm, 47, rfl⟩
abbrev main_cst_5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_6 : Ref sig .tc := ⟨.hbm, 52, rfl⟩
abbrev main_v24 : Ref sig .tc := ⟨.hbm, 53, rfl⟩
abbrev main_v25 : Ref sig .tc := ⟨.hbm, 54, rfl⟩
abbrev main_cst_7 : Ref sig .tc := ⟨.hbm, 55, rfl⟩
abbrev main_call1_v0 : Ref sig .tc := ⟨.hbm, 56, rfl⟩
abbrev main_call1_v1 : Ref sig .tc := ⟨.hbm, 57, rfl⟩
abbrev main_v26 : Ref sig .tc := ⟨.hbm, 58, rfl⟩
abbrev main_c : Ref sig .tc := ⟨.hbm, 59, rfl⟩
abbrev main_v27 : Ref sig .tc := ⟨.hbm, 60, rfl⟩
abbrev main_v28 : Ref sig .tc := ⟨.hbm, 61, rfl⟩
abbrev main_c_8 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_9 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call2_cst : Ref sig .tc := ⟨.hbm, 83, rfl⟩
abbrev main_call2_v0 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_12 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_values_13 : Ref sig .tc := ⟨.hbm, 104, rfl⟩
abbrev main_indices_14 : Ref sig .tc := ⟨.hbm, 105, rfl⟩
abbrev main_v64 : Ref sig .tc := ⟨.hbm, 106, rfl⟩
abbrev main_cst_15 : Ref sig .tc := ⟨.hbm, 107, rfl⟩
abbrev main_v65 : Ref sig .tc := ⟨.hbm, 108, rfl⟩
abbrev main_v66 : Ref sig .tc := ⟨.hbm, 109, rfl⟩
abbrev main_cst_16 : Ref sig .tc := ⟨.hbm, 110, rfl⟩
abbrev main_v67 : Ref sig .tc := ⟨.hbm, 111, rfl⟩
abbrev main_v68 : Ref sig .tc := ⟨.hbm, 112, rfl⟩
abbrev main_cst_17 : Ref sig .tc := ⟨.hbm, 113, rfl⟩
abbrev main_call3_v0 : Ref sig .tc := ⟨.hbm, 114, rfl⟩
abbrev main_call3_v1 : Ref sig .tc := ⟨.hbm, 115, rfl⟩
abbrev main_v69 : Ref sig .tc := ⟨.hbm, 116, rfl⟩
abbrev main_cst_18 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_19 : Ref sig .tc := ⟨.hbm, 121, rfl⟩
abbrev main_v73 : Ref sig .tc := ⟨.hbm, 122, rfl⟩
abbrev main_v74 : Ref sig .tc := ⟨.hbm, 123, rfl⟩
abbrev main_cst_20 : Ref sig .tc := ⟨.hbm, 124, rfl⟩
abbrev main_call4_v0 : Ref sig .tc := ⟨.hbm, 125, rfl⟩
abbrev main_call4_v1 : Ref sig .tc := ⟨.hbm, 126, rfl⟩
abbrev main_v75 : Ref sig .tc := ⟨.hbm, 127, rfl⟩
abbrev main_c_21 : Ref sig .tc := ⟨.hbm, 128, rfl⟩
abbrev main_v76 : Ref sig .tc := ⟨.hbm, 129, rfl⟩
abbrev main_v77 : Ref sig .tc := ⟨.hbm, 130, rfl⟩
abbrev main_c_22 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_23 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_call5_cst : Ref sig .tc := ⟨.hbm, 152, rfl⟩
abbrev main_call5_v0 : Ref sig .tc := ⟨.hbm, 153, rfl⟩
abbrev main_v97 : Ref sig .tc := ⟨.hbm, 154, rfl⟩
abbrev main_v98 : Ref sig .tc := ⟨.hbm, 155, rfl⟩
abbrev main_cst_24 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_cst_25 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_26 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_values_27 : Ref sig .tc := ⟨.hbm, 173, rfl⟩
abbrev main_indices_28 : Ref sig .tc := ⟨.hbm, 174, rfl⟩
abbrev main_v113 : Ref sig .tc := ⟨.hbm, 175, rfl⟩
abbrev main_cst_29 : Ref sig .tc := ⟨.hbm, 176, rfl⟩
abbrev main_v114 : Ref sig .tc := ⟨.hbm, 177, rfl⟩
abbrev main_v115 : Ref sig .tc := ⟨.hbm, 178, rfl⟩
abbrev main_cst_30 : Ref sig .tc := ⟨.hbm, 179, rfl⟩
abbrev main_v116 : Ref sig .tc := ⟨.hbm, 180, rfl⟩
abbrev main_v117 : Ref sig .tc := ⟨.hbm, 181, rfl⟩
abbrev main_cst_31 : Ref sig .tc := ⟨.hbm, 182, rfl⟩
abbrev main_call6_v0 : Ref sig .tc := ⟨.hbm, 183, rfl⟩
abbrev main_call6_v1 : Ref sig .tc := ⟨.hbm, 184, rfl⟩
abbrev main_v118 : Ref sig .tc := ⟨.hbm, 185, rfl⟩
abbrev main_cst_32 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_cst_33 : Ref sig .tc := ⟨.hbm, 190, rfl⟩
abbrev main_v122 : Ref sig .tc := ⟨.hbm, 191, rfl⟩
abbrev main_v123 : Ref sig .tc := ⟨.hbm, 192, rfl⟩
abbrev main_cst_34 : Ref sig .tc := ⟨.hbm, 193, rfl⟩
abbrev main_call7_v0 : Ref sig .tc := ⟨.hbm, 194, rfl⟩
abbrev main_call7_v1 : Ref sig .tc := ⟨.hbm, 195, rfl⟩
abbrev main_v124 : Ref sig .tc := ⟨.hbm, 196, rfl⟩
abbrev main_c_35 : Ref sig .tc := ⟨.hbm, 197, rfl⟩
abbrev main_v125 : Ref sig .tc := ⟨.hbm, 198, rfl⟩
abbrev main_v126 : Ref sig .tc := ⟨.hbm, 199, rfl⟩
abbrev main_c_36 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_37 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_call8_cst : Ref sig .tc := ⟨.hbm, 221, rfl⟩
abbrev main_call8_v0 : Ref sig .tc := ⟨.hbm, 222, rfl⟩
abbrev main_v146 : Ref sig .tc := ⟨.hbm, 223, rfl⟩
abbrev main_v147 : Ref sig .tc := ⟨.hbm, 224, rfl⟩
abbrev main_cst_38 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_cst_39 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_40 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_values_41 : Ref sig .tc := ⟨.hbm, 242, rfl⟩
abbrev main_indices_42 : Ref sig .tc := ⟨.hbm, 243, rfl⟩
abbrev main_v162 : Ref sig .tc := ⟨.hbm, 244, rfl⟩
abbrev main_cst_43 : Ref sig .tc := ⟨.hbm, 245, rfl⟩
abbrev main_v163 : Ref sig .tc := ⟨.hbm, 246, rfl⟩
abbrev main_v164 : Ref sig .tc := ⟨.hbm, 247, rfl⟩
abbrev main_cst_44 : Ref sig .tc := ⟨.hbm, 248, rfl⟩
abbrev main_v165 : Ref sig .tc := ⟨.hbm, 249, rfl⟩
abbrev main_v166 : Ref sig .tc := ⟨.hbm, 250, rfl⟩
abbrev main_cst_45 : Ref sig .tc := ⟨.hbm, 251, rfl⟩
abbrev main_call9_v0 : Ref sig .tc := ⟨.hbm, 252, rfl⟩
abbrev main_call9_v1 : Ref sig .tc := ⟨.hbm, 253, rfl⟩
abbrev main_v167 : Ref sig .tc := ⟨.hbm, 254, rfl⟩
abbrev main_cst_46 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_cst_47 : Ref sig .tc := ⟨.hbm, 259, rfl⟩
abbrev main_v171 : Ref sig .tc := ⟨.hbm, 260, rfl⟩
abbrev main_v172 : Ref sig .tc := ⟨.hbm, 261, rfl⟩
abbrev main_cst_48 : Ref sig .tc := ⟨.hbm, 262, rfl⟩
abbrev main_call10_v0 : Ref sig .tc := ⟨.hbm, 263, rfl⟩
abbrev main_call10_v1 : Ref sig .tc := ⟨.hbm, 264, rfl⟩
abbrev main_v173 : Ref sig .tc := ⟨.hbm, 265, rfl⟩
abbrev main_c_49 : Ref sig .tc := ⟨.hbm, 266, rfl⟩
abbrev main_v174 : Ref sig .tc := ⟨.hbm, 267, rfl⟩
abbrev main_v175 : Ref sig .tc := ⟨.hbm, 268, rfl⟩
abbrev main_c_50 : Ref sig .tc := ⟨.hbm, 269, rfl⟩
abbrev main_v176 : Ref sig .tc := ⟨.hbm, 270, rfl⟩
abbrev main_v177 : Ref sig .tc := ⟨.hbm, 271, rfl⟩
abbrev main_v178 : Ref sig .tc := ⟨.hbm, 272, rfl⟩
abbrev main_v179 : Ref sig .tc := ⟨.hbm, 273, rfl⟩
abbrev main_v180 : Ref sig .tc := ⟨.hbm, 274, rfl⟩
abbrev main_v181 : Ref sig .tc := ⟨.hbm, 275, rfl⟩
abbrev main_v182 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_cst_51 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_cst_52 : Ref sig .tc := ⟨.hbm, 290, rfl⟩
abbrev main_v195 : Ref sig .tc := ⟨.hbm, 291, rfl⟩
abbrev main_cst_53 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_cst_54 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_v205 : Ref sig .tc := ⟨.hbm, 303, rfl⟩
abbrev main_v206 : Ref sig .tc := ⟨.hbm, 304, rfl⟩
abbrev main_cst_55 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_cst_56 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_v215 : Ref sig .tc := ⟨.hbm, 315, rfl⟩
abbrev main_v216 : Ref sig .tc := ⟨.hbm, 316, rfl⟩
abbrev main_cst_57 : Ref sig .tc := ⟨.hbm, 317, rfl⟩
abbrev main_v217 : Ref sig .tc := ⟨.hbm, 318, rfl⟩
abbrev main_v218 : Ref sig .tc := ⟨.hbm, 319, rfl⟩
abbrev main_v219 : Ref sig .tc := ⟨.hbm, 320, rfl⟩
abbrev main_v220 : Ref sig .tc := ⟨.hbm, 321, rfl⟩
abbrev main_values_58 : Ref sig .tc := ⟨.hbm, 322, rfl⟩
abbrev main_indices_59 : Ref sig .tc := ⟨.hbm, 323, rfl⟩
abbrev main_v221 : Ref sig .tc := ⟨.hbm, 324, rfl⟩
abbrev main_cst_60 : Ref sig .tc := ⟨.hbm, 325, rfl⟩
abbrev main_v222 : Ref sig .tc := ⟨.hbm, 326, rfl⟩
abbrev main_v223 : Ref sig .tc := ⟨.hbm, 327, rfl⟩
abbrev main_cst_61 : Ref sig .tc := ⟨.hbm, 328, rfl⟩
abbrev main_v224 : Ref sig .tc := ⟨.hbm, 329, rfl⟩
abbrev main_v225 : Ref sig .tc := ⟨.hbm, 330, rfl⟩
abbrev main_cst_62 : Ref sig .tc := ⟨.hbm, 331, rfl⟩
abbrev main_call11_v0 : Ref sig .tc := ⟨.hbm, 332, rfl⟩
abbrev main_call11_v1 : Ref sig .tc := ⟨.hbm, 333, rfl⟩
abbrev main_v226 : Ref sig .tc := ⟨.hbm, 334, rfl⟩
abbrev main_cst_63 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_cst_64 : Ref sig .tc := ⟨.hbm, 339, rfl⟩
abbrev main_v230 : Ref sig .tc := ⟨.hbm, 340, rfl⟩
abbrev main_v231 : Ref sig .tc := ⟨.hbm, 341, rfl⟩
abbrev main_cst_65 : Ref sig .tc := ⟨.hbm, 342, rfl⟩
abbrev main_call12_v0 : Ref sig .tc := ⟨.hbm, 343, rfl⟩
abbrev main_call12_v1 : Ref sig .tc := ⟨.hbm, 344, rfl⟩
abbrev main_v232 : Ref sig .tc := ⟨.hbm, 345, rfl⟩
abbrev main_c_66 : Ref sig .tc := ⟨.hbm, 346, rfl⟩
abbrev main_v233 : Ref sig .tc := ⟨.hbm, 347, rfl⟩
abbrev main_v234 : Ref sig .tc := ⟨.hbm, 348, rfl⟩
abbrev main_c_67 : Ref sig .tc := ⟨.hbm, 349, rfl⟩
abbrev main_v235 : Ref sig .tc := ⟨.hbm, 350, rfl⟩
abbrev main_v236 : Ref sig .tc := ⟨.hbm, 351, rfl⟩
abbrev main_v237 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_v248 : Ref sig .tc := ⟨.hbm, 363, rfl⟩
abbrev main_cst_68 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_v255 : Ref sig .tc := ⟨.hbm, 371, rfl⟩
abbrev main_cst_69 : Ref sig .tc := ⟨.hbm, 372, rfl⟩
abbrev main_v256 : Ref sig .tc := ⟨.hbm, 373, rfl⟩
abbrev main_v257 : Ref sig .tc := ⟨.hbm, 374, rfl⟩
abbrev main_v258 : Ref sig .tc := ⟨.hbm, 375, rfl⟩
abbrev main_v259 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_cst_70 : Ref sig .tc := ⟨.hbm, 380, rfl⟩
abbrev main_v263 : Ref sig .tc := ⟨.hbm, 381, rfl⟩
abbrev main_cst_71 : Ref sig .tc := ⟨.hbm, 382, rfl⟩
abbrev main_v264 : Ref sig .tc := ⟨.hbm, 383, rfl⟩
abbrev main_v265 : Ref sig .tc := ⟨.hbm, 384, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

/-! The kernel's run, every buffer outside the regions read at the end. -/

namespace Cert.Knn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources the run is stated over. -/
abbrev Res (F : FTy → Type) := MT nD τ sig Unit (Elt F) ℕ (UR sig nD τ) ℕ

variable (m : (ℓ : Loc nD τ sig) → Buf (Elt F) ℓ) (ρ : Dev nD → PrngReg)

set_option backward.isDefEq.respectTransparency.types false in

/-- Every execution ends, and every buffer outside the regions then holds what the stretches and the regions leave there. -/
theorem ends : θ_run defs (onTc (τ := τ) (main (F := F))) ⟨m, fun _ => 0, ρ⟩
    (fun r => ∀ c : Dev nD, ∀ b ∈ Pipeline.ucRefs τ sig, r.2.mem (((c : Thread nD τ)).1, b) = W19 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => h)

end Cert.Knn
-- ==== Proof.Dist.lean ====
module

public import proofs.«01_k».proof.Proof.Gen.KernelIdeal.Frame
public import Idealize.ShloMosaic.Lib.Pipeline.ValueKit
public import Idealize.ShloMosaic.Lib.Pointwise

@[expose] public section

noncomputable section

/-! What a distance call leaves in its array: every query's score of every key, and −∞ at the padding keys. -/

namespace Cert.Knn

open Idealize.ShloMosaic Idealize.ShloMosaic.TcCoe Cert.KernelIdeal Cert.KernelIdeal.Gen
open Idealize.ShloMosaic.Pipeline (Dat Cfg Window)

/-- An array of two axes, its entries extended reals. -/
abbrev Mat (A B : Nat) : Type := (⟨2, ![A, B]⟩ : Shape).Idx → EReal

/-- The negated squared distance of query `r` and key `c`, expanded: twice the inner product less the two squares. -/
def score {A B D : Nat} (q : Mat A D) (K : Mat B D) (r : Fin A) (c : Fin B) : EReal :=
  2 * (∑ x, q (ix2 r x) * K (ix2 c x)) - ((∑ x, q (ix2 r x) * q (ix2 r x)) + ∑ x, K (ix2 c x) * K (ix2 c x))

/-- The scores of every query against the padded keys, a padding key's the least value. -/
def scores {A B D : Nat} (q : Mat A D) (K : Mat B D) : Mat A B :=
  fun j => if (j 1).val < 100000 then score q K (j 0 : Fin A) (j 1 : Fin B) else ⊥

theorem two_word : Ideal.ofBits .f32 1073741824#32 = 2 := by
  simp [Ideal.ofBits, Ideal.ieee, -EReal.coe_mul]; norm_num; rfl

theorem bot_word : Ideal.ofBits .f32 4286578688#32 = ⊥ := by
  simp [Ideal.ofBits, Ideal.ieee, -EReal.coe_mul]

/-- The mask of a block: position `l` of block `i` is a key's exactly when it is below the number of keys. -/
theorem select_mask {α : Type} (i : Nat) (hi : i < 49) (l : Fin 2048) (x y : α) :
    Scalar.select (IntOp.cmpi .slt (IntOp.addi (Scalar.muli (BitVec.ofNat 32 i) 2048#32) (BitVec.ofNat 32 l.val)) 100000#32) x y
      = if i * 2048 + l.val < 100000 then x else y := by
  have hl := l.isLt
  have e : IntOp.addi (Scalar.muli (BitVec.ofNat 32 i) 2048#32) (BitVec.ofNat 32 l.val) = BitVec.ofNat 32 (i * 2048 + l.val) := by
    simp [IntOp.addi, Scalar.muli, IntOp.muli, BitVec.ofNat_add, BitVec.ofNat_mul]
  rw [e]
  have hc : IntOp.cmpi .slt (BitVec.ofNat 32 (i * 2048 + l.val)) 100000#32 = BitVec.ofBool (decide (i * 2048 + l.val < 100000)) :=
    WordCmp.cmpi_slt_ofNat (by norm_num; omega) (by norm_num)
  rw [hc]
  by_cases h : i * 2048 + l.val < 100000
  · simp [h, Scalar.select]
  · simp [h, Scalar.select]

/-- A block of scores: where a block of queries is the queries and a block of keys is the keys from row `2048 i` on, the
    block's scores are the array's from column `2048 i` on. -/
theorem scores_block {D : Nat} (q : Mat 1024 D) (K : Mat 100352 D) (bq : Mat 1024 D) (bk : Mat 2048 D) (i : Nat) (hi : i < 49)
    (hq : ∀ r x, bq (ix2 r x) = q (ix2 r x))
    (hk : ∀ (l : Fin 2048) x, bk (ix2 l x) = K (ix2 (⟨i * 2048 + l.val, by omega⟩ : Fin 100352) x)) (r : Fin 1024) (l : Fin 2048) :
    (if i * 2048 + l.val < 100000 then score bq bk r l else ⊥) = scores q K (ix2 r (⟨i * 2048 + l.val, by omega⟩ : Fin 100352)) := by
  unfold scores score
  simp only [hq, hk]
  rfl

section Payloads
variable (r : Fin 1024) (l : Fin 2048)

theorem pay1_apply (i : grid1.Coords) (v0 : Vec Ideal S1024x83 .f32) (v1 : Vec Ideal S2048x83 .f32) :
    k1_pay1 i v0 v1 (ix2 r l) = if (i 0).val * 2048 + l.val < 100000 then score v0 v1 r l else ⊥ := by
  pointwise [k1_pay1]
  rw [select_mask _ (i 0).isLt, two_word, bot_word]
  rfl

theorem pay2_apply (i : grid2.Coords) (v0 : Vec Ideal S1024x128 .f32) (v1 : Vec Ideal S2048x128 .f32) :
    k2_pay1 i v0 v1 (ix2 r l) = if (i 0).val * 2048 + l.val < 100000 then score v0 v1 r l else ⊥ := by
  pointwise [k2_pay1]
  rw [select_mask _ (i 0).isLt, two_word, bot_word]
  rfl

theorem pay5_apply (i : grid5.Coords) (v0 : Vec Ideal S1024x8 .f32) (v1 : Vec Ideal S2048x8 .f32) :
    k5_pay1 i v0 v1 (ix2 r l) = if (i 0).val * 2048 + l.val < 100000 then score v0 v1 r l else ⊥ := by
  pointwise [k5_pay1]
  rw [select_mask _ (i 0).isLt, two_word, bot_word]
  rfl

end Payloads

section Arrays
variable (V : (c : Dev nD) → (b : Ref sig .tc) → Buf (Elt Ideal) ((c : Thread nD τ).loc b)) (c : Dev nD)

/-- What region 1 leaves in its output: every query's scores against the padded keys. -/
theorem region1 : (dat1 V c).arrAt 2 cfg1.N = scores (A := 1024) (B := 100352) (D := 83) (V c main_arg0) (V c main_v5) := by
  have e0 : ∀ t : Fin grid1.N, win1_0.index t = ![0, 0] := by decide +kernel
  have e1 : ∀ t : Fin grid1.N, win1_1.index t = ![(grid1.coords t 0).val, 0] := by decide +kernel
  have e2 : ∀ t : Fin grid1.N, win1_2.index t = ![0, (grid1.coords t 0).val] := by decide +kernel
  refine (dat1 V c).arrAt_eq_of_covers 2 _ (by decide +kernel) fun t hf y => ?_
  obtain ⟨r, l, rfl⟩ : ∃ (r : Fin 1024) (l : Fin 2048), y = ix2 r l := ⟨y 0, y 1, eq_ix2 y⟩
  blk_simp
  rw [after1_2]; frame_out; rw [pay1_apply]
  refine (scores_block (V c main_arg0) (V c main_v5) _ _ _ (grid1.coords t 0).isLt (fun r x => ?_) (fun l x => ?_) r l).trans (congrArg _ ?_)
  · blk_simp [iblk1]
    exact congrArg _ (by blk_ext [e0])
  · blk_simp [iblk1]
    exact congrArg _ (by blk_ext [e1])
  · blk_ext [e2]

/-- What region 2 leaves in its output: every query's scores against the padded keys. -/
theorem region2 : (dat2 V c).arrAt 2 cfg2.N = scores (A := 1024) (B := 100352) (D := 128) (V c main_v4_0) (V c main_v14) := by
  have e0 : ∀ t : Fin grid2.N, win2_0.index t = ![0, 0] := by decide +kernel
  have e1 : ∀ t : Fin grid2.N, win2_1.index t = ![(grid2.coords t 0).val, 0] := by decide +kernel
  have e2 : ∀ t : Fin grid2.N, win2_2.index t = ![0, (grid2.coords t 0).val] := by decide +kernel
  refine (dat2 V c).arrAt_eq_of_covers 2 _ (by decide +kernel) fun t hf y => ?_
  obtain ⟨r, l, rfl⟩ : ∃ (r : Fin 1024) (l : Fin 2048), y = ix2 r l := ⟨y 0, y 1, eq_ix2 y⟩
  blk_simp
  rw [after2_2]; frame_out; rw [pay2_apply]
  refine (scores_block (V c main_v4_0) (V c main_v14) _ _ _ (grid2.coords t 0).isLt (fun r x => ?_) (fun l x => ?_) r l).trans (congrArg _ ?_)
  · blk_simp [iblk2]
    exact congrArg _ (by blk_ext [e0])
  · blk_simp [iblk2]
    exact congrArg _ (by blk_ext [e1])
  · blk_ext [e2]

/-- What region 3 leaves in its output: every query's scores against the padded keys. -/
theorem region3 : (dat3 V c).arrAt 2 cfg3.N = scores (A := 1024) (B := 100352) (D := 128) (V c main_v4_1) (V c main_v23) := by
  have e0 : ∀ t : Fin grid3.N, win3_0.index t = ![0, 0] := by decide +kernel
  have e1 : ∀ t : Fin grid3.N, win3_1.index t = ![(grid3.coords t 0).val, 0] := by decide +kernel
  have e2 : ∀ t : Fin grid3.N, win3_2.index t = ![0, (grid3.coords t 0).val] := by decide +kernel
  refine (dat3 V c).arrAt_eq_of_covers 2 _ (by decide +kernel) fun t hf y => ?_
  obtain ⟨r, l, rfl⟩ : ∃ (r : Fin 1024) (l : Fin 2048), y = ix2 r l := ⟨y 0, y 1, eq_ix2 y⟩
  blk_simp
  rw [after3_2]; frame_out; rw [(show k3_pay1 _ _ _ _ = _ from pay2_apply _ _ _ _ _)]
  refine (scores_block (V c main_v4_1) (V c main_v23) _ _ _ (grid3.coords t 0).isLt (fun r x => ?_) (fun l x => ?_) r l).trans (congrArg _ ?_)
  · blk_simp [iblk3]
    exact congrArg _ (by blk_ext [e0])
  · blk_simp [iblk3]
    exact congrArg _ (by blk_ext [e1])
  · blk_ext [e2]

/-- What region 4 leaves in its output: every query's scores against the padded keys. -/
theorem region4 : (dat4 V c).arrAt 2 cfg4.N = scores (A := 1024) (B := 100352) (D := 128) (V c main_v4_2) (V c main_v32) := by
  have e0 : ∀ t : Fin grid4.N, win4_0.index t = ![0, 0] := by decide +kernel
  have e1 : ∀ t : Fin grid4.N, win4_1.index t = ![(grid4.coords t 0).val, 0] := by decide +kernel
  have e2 : ∀ t : Fin grid4.N, win4_2.index t = ![0, (grid4.coords t 0).val] := by decide +kernel
  refine (dat4 V c).arrAt_eq_of_covers 2 _ (by decide +kernel) fun t hf y => ?_
  obtain ⟨r, l, rfl⟩ : ∃ (r : Fin 1024) (l : Fin 2048), y = ix2 r l := ⟨y 0, y 1, eq_ix2 y⟩
  blk_simp
  rw [after4_2]; frame_out; rw [(show k4_pay1 _ _ _ _ = _ from pay2_apply _ _ _ _ _)]
  refine (scores_block (V c main_v4_2) (V c main_v32) _ _ _ (grid4.coords t 0).isLt (fun r x => ?_) (fun l x => ?_) r l).trans (congrArg _ ?_)
  · blk_simp [iblk4]
    exact congrArg _ (by blk_ext [e0])
  · blk_simp [iblk4]
    exact congrArg _ (by blk_ext [e1])
  · blk_ext [e2]

/-- What region 5 leaves in its output: every query's scores against the padded keys. -/
theorem region5 : (dat5 V c).arrAt 2 cfg5.N = scores (A := 1024) (B := 100352) (D := 8) (V c main_v4_3) (V c main_v41) := by
  have e0 : ∀ t : Fin grid5.N, win5_0.index t = ![0, 0] := by decide +kernel
  have e1 : ∀ t : Fin grid5.N, win5_1.index t = ![(grid5.coords t 0).val, 0] := by decide +kernel
  have e2 : ∀ t : Fin grid5.N, win5_2.index t = ![0, (grid5.coords t 0).val] := by decide +kernel
  refine (dat5 V c).arrAt_eq_of_covers 2 _ (by decide +kernel) fun t hf y => ?_
  obtain ⟨r, l, rfl⟩ : ∃ (r : Fin 1024) (l : Fin 2048), y = ix2 r l := ⟨y 0, y 1, eq_ix2 y⟩
  blk_simp
  rw [after5_2]; frame_out; rw [pay5_apply]
  refine (scores_block (V c main_v4_3) (V c main_v41) _ _ _ (grid5.coords t 0).isLt (fun r x => ?_) (fun l x => ?_) r l).trans (congrArg _ ?_)
  · blk_simp [iblk5]
    exact congrArg _ (by blk_ext [e0])
  · blk_simp [iblk5]
    exact congrArg _ (by blk_ext [e1])
  · blk_ext [e2]

end Arrays

end Cert.Knn
-- ==== Proof.Net.lean ====
module

public import proofs.«01_k».proof.Proof.Dist

@[expose] public section

noncomputable section

/-! What the network call leaves: the three hidden layers and the class probabilities. -/

namespace Cert.Knn

open Idealize.ShloMosaic Idealize.ShloMosaic.TcCoe Cert.KernelIdeal Cert.KernelIdeal.Gen
open Idealize.ShloMosaic.Pipeline (Dat Cfg Window)

/-- A dense layer: the product with the weights and the bias added. -/
def dense {A B C : Nat} (x : Mat A B) (W : Mat B C) (b : Fin C → EReal) : Mat A C :=
  fun j => (∑ k, x (ix2 (j 0 : Fin A) k) * W (ix2 k (j 1 : Fin C))) + b (j 1)

/-- The rectifier. -/
def relu {A C : Nat} (x : Mat A C) : Mat A C := fun j => max (x j) 0

/-- A row's greatest entry. -/
def rowMax {A C : Nat} (x : Mat A C) (r : Fin A) : EReal := Finset.univ.fold max ⊥ fun k => x (ix2 r k)

/-- The softmax of every row, its greatest entry taken off first. -/
def softmax {A C : Nat} (x : Mat A C) : Mat A C :=
  fun j => Ideal.div (Ideal.exp (x j - rowMax x (j 0))) (∑ k, Ideal.exp (x (ix2 (j 0 : Fin A) k) - rowMax x (j 0)))

section Payloads

theorem hidden1 (v0 : Vec Ideal S1024x83 .f32) (v1 : Vec Ideal S83x128 .f32) (v3 : Vec Ideal S1x128 .f32) :
    k0_pay2 v0 v1 v3 = relu (dense (A := 1024) v0 v1 fun c => v3 (ix2 0 c)) := by
  funext j
  unfold relu dense
  pointwise [k0_pay2]

theorem hidden2 (v0 : Vec Ideal S1024x83 .f32) (v1 : Vec Ideal S83x128 .f32) (v3 : Vec Ideal S1x128 .f32)
    (v10 : Vec Ideal S128x128 .f32) (v12 : Vec Ideal S1x128 .f32) :
    k0_pay3 v0 v1 v3 v10 v12 = relu (dense (A := 1024) (k0_pay2 v0 v1 v3) v10 fun c => v12 (ix2 0 c)) := by
  funext j
  unfold relu dense
  pointwise [k0_pay3]

theorem hidden3 (v0 : Vec Ideal S1024x83 .f32) (v1 : Vec Ideal S83x128 .f32) (v3 : Vec Ideal S1x128 .f32)
    (v10 : Vec Ideal S128x128 .f32) (v12 : Vec Ideal S1x128 .f32) (v19 : Vec Ideal S128x128 .f32) (v21 : Vec Ideal S1x128 .f32) :
    k0_pay4 v0 v1 v3 v10 v12 v19 v21 = relu (dense (A := 1024) (k0_pay3 v0 v1 v3 v10 v12) v19 fun c => v21 (ix2 0 c)) := by
  funext j
  unfold relu dense
  pointwise [k0_pay4]

theorem output (v26 : FVec Ideal S1024x128 .f32) (v28 : Vec Ideal S128x8 .f32) (v30 : Vec Ideal S1x8 .f32) :
    k0_pay1 v26 v28 v30 = softmax (dense (A := 1024) v26 v28 fun c => v30 (ix2 0 c)) := by
  funext j
  unfold softmax rowMax dense
  pointwise [k0_pay1]
  rw [bot_word]

end Payloads

section Arrays
variable (V : (c : Dev nD) → (b : Ref sig .tc) → Buf (Elt Ideal) ((c : Thread nD τ).loc b)) (c : Dev nD)

/-- A window of a whole array stands at block zero. -/
theorem whole_index {s : Shape} {e : EltTy} (arr : Memref sig .tc .hbm s e) (b b' : Bool) (st : Memref sig .tc .vmem s e) (d : DmaSem sig)
    (h : arr.IsWhole) (h' : st.IsWhole) (t : Fin Pipeline.Grid.none.N) (a : Fin s.rank) :
    (Pipeline.Window.whole arr b b' st d h h').index t a = 0 := rfl

set_option maxHeartbeats 1000000 in
/-- The network's region has one point, so every block is its whole array. -/
theorem blocks0 (t : Fin cfg0.N) :
    iblk0 V c 0 t = V c main_arg0 ∧
    iblk0 V c 1 t = V c main_arg1 ∧
    iblk0 V c 2 t = V c main_v0 ∧
    iblk0 V c 3 t = V c main_arg3 ∧
    iblk0 V c 4 t = V c main_v1 ∧
    iblk0 V c 5 t = V c main_arg5 ∧
    iblk0 V c 6 t = V c main_v2 ∧
    iblk0 V c 7 t = V c main_arg7 ∧
    iblk0 V c 8 t = V c main_v3 := by
  refine ⟨?_, ?_, ?_, ?_, ?_, ?_, ?_, ?_, ?_⟩ <;>
    (funext y; blk_simp [iblk0]; exact congrArg _ (by blk_ext [whole_index]))

/-- The first hidden layer of the network on the arrays a region finds. -/
def hid1 : Mat 1024 128 := relu (dense (A := 1024) (B := 83) (C := 128) (V c main_arg0) (V c main_arg1) fun l => V c main_v0 (ix2 0 l))
/-- The second hidden layer. -/
def hid2 : Mat 1024 128 := relu (dense (A := 1024) (B := 128) (C := 128) (hid1 V c) (V c main_arg3) fun l => V c main_v1 (ix2 0 l))
/-- The third hidden layer. -/
def hid3 : Mat 1024 128 := relu (dense (A := 1024) (B := 128) (C := 128) (hid2 V c) (V c main_arg5) fun l => V c main_v2 (ix2 0 l))
/-- The class probabilities. -/
def prob : Mat 1024 8 := softmax (dense (A := 1024) (B := 128) (C := 8) (hid3 V c) (V c main_arg7) fun l => V c main_v3 (ix2 0 l))

theorem region0_9 : (dat0 V c).arrAt 9 cfg0.N = hid1 V c := by
  refine (dat0 V c).arrAt_eq_of_covers 9 _ (by decide +kernel) fun t hf y => ?_
  blk_simp
  rw [after0_9]; frame_out
  obtain ⟨b0, b1, b2, _, _, _, _, _, _⟩ := blocks0 V c t
  rw [b0, b1, b2, hidden1]
  exact congrArg (hid1 V c) (by blk_ext [whole_index])

theorem region0_10 : (dat0 V c).arrAt 10 cfg0.N = hid2 V c := by
  refine (dat0 V c).arrAt_eq_of_covers 10 _ (by decide +kernel) fun t hf y => ?_
  blk_simp
  rw [after0_10]; frame_out
  obtain ⟨b0, b1, b2, b3, b4, _, _, _, _⟩ := blocks0 V c t
  rw [b0, b1, b2, b3, b4, hidden2, hidden1]
  exact congrArg (hid2 V c) (by blk_ext [whole_index])

theorem region0_11 : (dat0 V c).arrAt 11 cfg0.N = hid3 V c := by
  refine (dat0 V c).arrAt_eq_of_covers 11 _ (by decide +kernel) fun t hf y => ?_
  blk_simp
  rw [after0_11]; frame_out
  obtain ⟨b0, b1, b2, b3, b4, b5, b6, _, _⟩ := blocks0 V c t
  rw [b0, b1, b2, b3, b4, b5, b6, hidden3, hidden2, hidden1]
  exact congrArg (hid3 V c) (by blk_ext [whole_index])

theorem region0_12 : (dat0 V c).arrAt 12 cfg0.N = prob V c := by
  refine (dat0 V c).arrAt_eq_of_covers 12 _ (by decide +kernel) fun t hf y => ?_
  blk_simp
  rw [after0_12]; frame_out
  obtain ⟨b0, b1, b2, b3, b4, b5, b6, b7, b8⟩ := blocks0 V c t
  rw [b0, b1, b2, b3, b4, b5, b6, b7, b8, output, hidden3, hidden2, hidden1]
  exact congrArg (prob V c) (by blk_ext [whole_index])

end Arrays

end Cert.Knn
-- ==== Proof.TopPad.lean ====
module

public import Idealize.ShloMosaic.PureOps
public import Idealize.ShloMosaic.Lib.ValueIdx
public import Idealize.ShloMosaic.Lib.SortFacts
public import Idealize.ShloMosaic.Lib.Pointwise

/-!
A top-k over rows that were padded on the right by the least value takes the same entries as one over the rows as they
were: the sort is stable and no padding position is greater than any other, so the padding stays behind.
-/

@[expose] public section

noncomputable section

namespace Cert.Knn

open Idealize.ShloMosaic

section Lists
variable {ι κ : Type}

theorem insertBefore_append (before : ι → ι → Bool) (a : ι) (S P : List ι) (h : ∀ b ∈ P, before b a = false) :
    insertBefore before a (S ++ P) = insertBefore before a S ++ P := by
  induction S with
  | nil =>
    cases P with
    | nil => rfl
    | cons b P => simp [insertBefore, h b List.mem_cons_self]
  | cons c S ih =>
    simp only [List.cons_append, insertBefore]
    split
    · rw [ih]; rfl
    · rfl

theorem stableSort_append (before : ι → ι → Bool) (l p : List ι) (h : ∀ b ∈ p, ∀ a ∈ l, before b a = false) :
    stableSort before (l ++ p) = stableSort before l ++ stableSort before p := by
  induction l with
  | nil => rfl
  | cons a l ih =>
    simp only [List.cons_append, stableSort]
    rw [ih fun b hb c hc => h b hb c (List.mem_cons_of_mem a hc)]
    exact insertBefore_append before a _ _ fun b hb =>
      h b ((perm_stableSort before p).mem_iff.mp hb) a List.mem_cons_self

theorem insertBefore_map (f : ι → κ) (B : ι → ι → Bool) (B' : κ → κ → Bool) (h : ∀ a b, B' (f a) (f b) = B a b)
    (a : ι) (l : List ι) : insertBefore B' (f a) (l.map f) = (insertBefore B a l).map f := by
  induction l with
  | nil => rfl
  | cons b l ih =>
    simp only [List.map_cons, insertBefore, h]
    split
    · rw [ih]; rfl
    · rfl

theorem stableSort_map (f : ι → κ) (B : ι → ι → Bool) (B' : κ → κ → Bool) (h : ∀ a b, B' (f a) (f b) = B a b)
    (l : List ι) : stableSort B' (l.map f) = (stableSort B l).map f := by
  induction l with
  | nil => rfl
  | cons a l ih =>
    simp only [List.map_cons, stableSort]
    rw [ih, insertBefore_map f B B' h]

end Lists

theorem finRange_add (n m : Nat) :
    List.finRange (n + m) = (List.finRange n).map (Fin.castAdd m) ++ (List.finRange m).map (Fin.natAdd n) := by
  apply List.ext_getElem
  · simp
  · intro i h1 h2
    by_cases hi : i < n
    · rw [List.getElem_append_left (by simpa using hi)]; ext; simp
    · rw [List.getElem_append_right (by simpa using Nat.le_of_not_lt hi)]; ext; simp; omega

/-- Positions sorted over a longer line whose extra positions come before none of the first `n`: the first `n` places
    hold what they hold over the short line. -/
theorem sortedFrom_pad {n m : Nat} (B : Fin n → Fin n → Bool) (B' : Fin (n + m) → Fin (n + m) → Bool)
    (h : ∀ a b, B' (Fin.castAdd m a) (Fin.castAdd m b) = B a b)
    (hp : ∀ b a, B' (Fin.natAdd n b) (Fin.castAdd m a) = false) (k : Fin n) :
    sortedFrom B' (Fin.castAdd m k) = Fin.castAdd m (sortedFrom B k) := by
  have e : sortPositions (n + m) B' = (sortPositions n B).map (Fin.castAdd m)
      ++ stableSort B' ((List.finRange m).map (Fin.natAdd n)) := by
    unfold sortPositions
    rw [finRange_add, stableSort_append, stableSort_map (Fin.castAdd m) B B' h]
    intro b hb a ha
    obtain ⟨b, _, rfl⟩ := List.mem_map.mp hb
    obtain ⟨a, _, rfl⟩ := List.mem_map.mp ha
    exact hp b a
  unfold sortedFrom
  rw [List.get_of_eq e]
  simp only [List.get_eq_getElem, Fin.val_cast, Fin.val_castAdd]
  rw [List.getElem_append_left (by rw [List.length_map, length_sortPositions]; exact k.isLt), List.getElem_map]

/-- Two arrays of two axes are equal when they agree at every row and column. -/
theorem ext_ix2 {A B : Nat} {α : Type} {f g : (⟨2, ![A, B]⟩ : Shape).Idx → α} (h : ∀ r c, f (ix2 r c) = g (ix2 r c)) : f = g := by
  funext j
  obtain ⟨r, c, rfl⟩ : ∃ (r : Fin A) (c : Fin B), j = ix2 r c := ⟨j 0, j 1, eq_ix2 j⟩
  exact h r c

/-- The column of row `r` at which the `c`-th greatest entry under `gt` stands. -/
def rank {R N : Nat} (gt : EReal → EReal → BitVec 1) (x : (⟨2, ![R, N]⟩ : Shape).Idx → EReal) (r : Fin R) (c : Fin N) : Fin N :=
  sortedFrom (fun a b : Fin N => gt (x (ix2 r a)) (x (ix2 r b)) == 1#1) c

section Apply
variable {R N k : Nat} (gt : EReal → EReal → BitVec 1) (x : (⟨2, ![R, N]⟩ : Shape).Idx → EReal)
  (h : (⟨2, ![R, N]⟩ : Shape).Slices (fun _ => 0) ⟨2, ![R, k]⟩)

theorem along_ix2 (hd : 1 < (⟨2, ![R, N]⟩ : Shape).rank) (r : Fin R) (c a : Fin N) :
    (ix2 r c : (⟨2, ![R, N]⟩ : Shape).Idx).along ⟨1, hd⟩ a = ix2 r a := by
  funext d
  match d with
  | ⟨0, _⟩ => rfl
  | ⟨1, _⟩ => rfl

theorem slice_ix2 {α : Type} (z : (⟨2, ![R, N]⟩ : Shape).Idx → α) (hk : k ≤ N) (r : Fin R) (c : Fin k) :
    extractStridedSlice ⟨2, ![R, k]⟩ (fun _ => 0) z h (ix2 r c) = z (ix2 r (c.castLE hk)) := by
  unfold extractStridedSlice
  congr 1
  funext d
  match d with
  | ⟨0, _⟩ => exact Fin.ext (by simp)
  | ⟨1, _⟩ => exact Fin.ext (by simp)

theorem topK_fst_apply (hk : k ≤ N) (r : Fin R) (c : Fin k) :
    (Host.topK ⟨2, ![R, k]⟩ 1 gt x h).1 (ix2 r c) = x (ix2 r (rank gt x r (c.castLE hk))) := by
  unfold Host.topK
  dsimp only
  rw [slice_ix2 h _ hk]
  unfold Host.sort2
  rw [dif_pos (show 1 < (⟨2, ![R, N]⟩ : Shape).rank from Nat.one_lt_two)]
  have e : ∀ a, (ix2 r (c.castLE hk) : (⟨2, ![R, N]⟩ : Shape).Idx).along ⟨1, Nat.one_lt_two⟩ a = ix2 r a := along_ix2 _ r _
  show x (Shape.Idx.along _ _ (sortedFrom (fun a b => gt (x (Shape.Idx.along _ _ a)) (x (Shape.Idx.along _ _ b)) == 1#1) (c.castLE hk))) = _
  simp only [e]
  rfl

theorem topK_snd_apply (hk : k ≤ N) (r : Fin R) (c : Fin k) :
    (Host.topK ⟨2, ![R, k]⟩ 1 gt x h).2 (ix2 r c) = BitVec.ofNat 32 (rank gt x r (c.castLE hk)).val := by
  unfold Host.topK
  dsimp only
  rw [slice_ix2 h _ hk]
  unfold Host.sort2
  rw [dif_pos (show 1 < (⟨2, ![R, N]⟩ : Shape).rank from Nat.one_lt_two)]
  have e : ∀ a, (ix2 r (c.castLE hk) : (⟨2, ![R, N]⟩ : Shape).Idx).along ⟨1, Nat.one_lt_two⟩ a = ix2 r a := along_ix2 _ r _
  show (if hd : 1 < 2 then iotaInDim ⟨2, ![R, N]⟩ 32 ⟨1, hd⟩
    (Shape.Idx.along _ _ (sortedFrom (fun a b => gt (x (Shape.Idx.along _ _ a)) (x (Shape.Idx.along _ _ b)) == 1#1) (c.castLE hk))) else 0#32) = _
  simp only [e]
  rfl

end Apply

/-- The top `k` of every row of `x`, and their columns, are those of `y` where `y` is `x` with columns of the least
    value added on the right. -/
theorem topK_pad {R n m k : Nat} (x : (⟨2, ![R, n]⟩ : Shape).Idx → EReal) (y : (⟨2, ![R, n + m]⟩ : Shape).Idx → EReal)
    (gt : EReal → EReal → BitVec 1) (hgt : ∀ a, gt ⊥ a = 0#1)
    (hl : ∀ (r : Fin R) (c : Fin n), y (ix2 r (Fin.castAdd m c)) = x (ix2 r c))
    (hr : ∀ (r : Fin R) (c : Fin m), y (ix2 r (Fin.natAdd n c)) = ⊥)
    (hy : (⟨2, ![R, n + m]⟩ : Shape).Slices (fun _ => 0) ⟨2, ![R, k]⟩) (hx : (⟨2, ![R, n]⟩ : Shape).Slices (fun _ => 0) ⟨2, ![R, k]⟩)
    (hk : k ≤ n) :
    Host.topK ⟨2, ![R, k]⟩ 1 gt y hy = Host.topK ⟨2, ![R, k]⟩ 1 gt x hx := by
  have hk' : k ≤ n + m := Nat.le_trans hk (Nat.le_add_right n m)
  have key : ∀ (r : Fin R) (c : Fin k), rank gt y r (c.castLE hk') = Fin.castAdd m (rank gt x r (c.castLE hk)) := by
    intro r c
    refine sortedFrom_pad _ _ ?_ ?_ (c.castLE hk)
    · intro a b; rw [hl, hl]
    · intro b a; rw [hr, hgt]; rfl
  refine Prod.ext (ext_ix2 fun r c => ?_) (ext_ix2 fun r c => ?_)
  · rw [topK_fst_apply gt y hy hk', topK_fst_apply gt x hx hk, key, hl]
  · rw [topK_snd_apply gt y hy hk', topK_snd_apply gt x hx hk, key]; rfl

end Cert.Knn
-- ==== Proof.Epi.lean ====
module

public import proofs.«01_k».proof.Proof.Net
public import proofs.«01_k».proof.Proof.TopPad
public import Idealize.ShloMosaic.Lib.Pointwise
public import Idealize.ShloMosaic.Lib.Pipeline.ValueKit

@[expose] public section

set_option maxRecDepth 16384

noncomputable section

/-! What the last call leaves: the share of the calibration scores that reach the summed votes. -/

namespace Cert.Knn

open Idealize.ShloMosaic Idealize.ShloMosaic.TcCoe Cert.KernelIdeal Cert.KernelIdeal.Gen
open Idealize.ShloMosaic.Pipeline (Dat Cfg Window)

/-- One class's column of a layer: the weights of the neighbours whose label is another class, added up. -/
def colK (w : FVec Ideal S1024x75 .f32) (lab : IVec S1024x75 32) (cls : Vec Ideal S1x1 .i32) : FVec Ideal S1024x1 .f32 :=
  shapeCast S1024x1 (multiReduction .add [1] S1024 (mulf w (sitofp .f32 (extui 32 (cmpi .ne lab
    (broadcast S1024x75 (extractAt ![0, 0] cls inpos_S1x1_p0_0))) natLt_1_32))) 0x00000000#32 reduces_S1024x75_S1024 (.inl rfl) rfl)
    shapeCasts_S1024_S1024x1

/-- Eight columns side by side. -/
def colsK (f : Fin 8 → FVec Ideal S1024x1 .f32) : FVec Ideal S1024x8 .f32 :=
  concatenate S1024x8 1 [⟨S1024x1, f 0⟩, ⟨S1024x1, f 1⟩, ⟨S1024x1, f 2⟩, ⟨S1024x1, f 3⟩, ⟨S1024x1, f 4⟩, ⟨S1024x1, f 5⟩, ⟨S1024x1, f 6⟩, ⟨S1024x1, f 7⟩]
    concatenates_S1024x1_S1024x1_S1024x1_S1024x1_S1024x1_S1024x1_S1024x1_S1024x1_S1024x8_d1

/-- The class names, one cell each. -/
def clsK (x1 : Vec Ideal S1x8 .i32) : Fin 8 → Vec Ideal S1x1 .i32 :=
  ![View.ld x1 r6_1, View.ld x1 r6_2, View.ld x1 r6_3, View.ld x1 r6_4, View.ld x1 r6_5, View.ld x1 r6_6, View.ld x1 r6_7, View.ld x1 r6_8]

/-- A layer's votes added to what the layers before it gave. -/
def layerK (acc : FVec Ideal S1024x8 .f32) (v : Vec Ideal S1024x75 .f32) (lab : Vec Ideal S1024x75 .i32) (x1 : Vec Ideal S1x8 .i32) : FVec Ideal S1024x8 .f32 :=
  addf acc (colsK fun c => colK (k6_pay2 (View.ld v r6_0)) (k6_pay3 (View.ld lab r6_0)) (clsK x1 c))

/-- One class's column of counts: how many calibration scores are at least the class's. -/
def cntK (cali : FVec Ideal S1x1024 .f32) (a : FVec Ideal S1024x1 .f32) : FVec Ideal S1024x1 .f32 :=
  shapeCast S1024x1 (multiReduction .add [1] S1024 (sitofp (F := Ideal) .f32 (extui 32 (cmpf .oge
    (broadcastTo S1024x1024 cali broadcasts_S1x1024_S1024x1024) (broadcastTo S1024x1024 a broadcasts_S1024x1_S1024x1024)) natLt_1_32))
    0x00000000#32 reduces_S1024x1024_S1024 (.inl rfl) rfl) shapeCasts_S1024_S1024x1

/-- The eight columns of an array. -/
def sliceK (a : FVec Ideal S1024x8 .f32) : Fin 8 → FVec Ideal S1024x1 .f32 :=
  ![extractStridedSlice S1024x1 ![0, 0] a slices_S1024x8_o0_0_S1024x1, extractStridedSlice S1024x1 ![0, 1] a slices_S1024x8_o0_1_S1024x1,
    extractStridedSlice S1024x1 ![0, 2] a slices_S1024x8_o0_2_S1024x1, extractStridedSlice S1024x1 ![0, 3] a slices_S1024x8_o0_3_S1024x1,
    extractStridedSlice S1024x1 ![0, 4] a slices_S1024x8_o0_4_S1024x1, extractStridedSlice S1024x1 ![0, 5] a slices_S1024x8_o0_5_S1024x1,
    extractStridedSlice S1024x1 ![0, 6] a slices_S1024x8_o0_6_S1024x1, extractStridedSlice S1024x1 ![0, 7] a slices_S1024x8_o0_7_S1024x1]

/-- The counts of all eight classes over the number of calibration scores. -/
def finalK (a : FVec Ideal S1024x8 .f32) (cali : FVec Ideal S1x1024 .f32) : FVec Ideal S1024x8 .f32 :=
  mulf (colsK fun c => cntK cali (sliceK a c)) (broadcast S1024x8 (Named.named (F := Ideal) κ "ncali" 0x3A83126F#32))

theorem out6_12_eq (x0 : Vec Ideal S1x1024 .f32) (x1 : Vec Ideal S1x8 .i32) (x2 : Vec Ideal S1024x75 .f32) (x3 : Vec Ideal S1024x75 .i32)
    (x4 : Vec Ideal S1024x75 .f32) (x5 : Vec Ideal S1024x75 .i32) (x6 : Vec Ideal S1024x75 .f32) (x7 : Vec Ideal S1024x75 .i32)
    (x8 : Vec Ideal S1024x75 .f32) (x9 : Vec Ideal S1024x75 .i32) (x10 : Vec Ideal S1024x75 .f32) (x11 : Vec Ideal S1024x75 .i32) :
    out6_12 x0 x1 x2 x3 x4 x5 x6 x7 x8 x9 x10 x11 = View.canon [⟨r6_10,
      finalK (layerK (layerK (layerK (layerK (layerK (k6_pay1 (F := Ideal)) x2 x3 x1) x4 x5 x1) x6 x7 x1) x8 x9 x1) x10 x11 x1)
        (k6_pay54 (View.ld x0 r6_9))⟩] := by
  rfl

theorem colsK_apply (f : Fin 8 → FVec Ideal S1024x1 .f32) (r : Fin 1024) (c : Fin 8) : colsK f (ix2 r c) = f c (ix2 r 0) := by
  fin_cases c <;> pointwise [colsK]

/-- One where a proposition holds and zero elsewhere. -/
def ind (p : Prop) [Decidable p] : EReal := if p then 1 else 0

theorem sitofp_ind (p : Prop) [Decidable p] :
    (FloatOps.sitofp FTy.f32 (BitVec.setWidth 32 (BitVec.ofBool (decide p))) : Ideal .f32) = ind p := by
  unfold ind
  by_cases h : p <;> simp [h, FloatOps.sitofp]

theorem uitofp_ind (p : Prop) [Decidable p] :
    (FloatOps.uitofp FTy.f32 (BitVec.ofBool (decide p)) : Ideal .f32) = ind p := by
  unfold ind
  by_cases h : p <;> simp [h, FloatOps.uitofp]

/-- A neighbour's weight, the reciprocal of its distance, from its negated squared distance. -/
def weight (d : EReal) : EReal := if 0 < max (-d) 0 then Ideal.rsqrt (max (-d) 0) else 0

/-- A class's votes in one layer: the weights of a row's neighbours of other labels. -/
def vote {A B : Nat} (v : Mat A B) (lab : (⟨2, ![A, B]⟩ : Shape).Idx → BitVec 32) (cls : BitVec 32) (r : Fin A) : EReal :=
  ∑ k, weight (v (ix2 r k)) * ind (lab (ix2 r k) ≠ cls)

theorem colK_apply (w : FVec Ideal S1024x75 .f32) (lab : IVec S1024x75 32) (cls : Vec Ideal S1x1 .i32) (r : Fin 1024) :
    colK w lab cls (ix2 r 0) = ∑ k : Fin 75, w (ix2 r k) * ind (lab (ix2 r k) ≠ cls (ix2 0 0)) := by
  pointwise [colK]
  refine Finset.sum_congr rfl fun k _ => ?_
  rw [WordCmp.cmpi_ne_eq, sitofp_ind]

theorem cntK_apply (cali : FVec Ideal S1x1024 .f32) (a : FVec Ideal S1024x1 .f32) (r : Fin 1024) :
    cntK cali a (ix2 r 0) = ∑ k : Fin 1024, ind (a (ix2 r 0) ≤ cali (ix2 0 k)) := by
  pointwise [cntK]
  exact Finset.sum_congr rfl fun k _ => sitofp_ind _

theorem weight_apply (v : Vec Ideal S1024x75 .f32) (r : Fin 1024) (k : Fin 75) :
    k6_pay2 v (ix2 r k) = weight (v (ix2 r k)) := by
  pointwise [k6_pay2]
  unfold weight
  rw [zero_sub]
  split_ifs <;> rfl

theorem clsK_apply (x1 : Vec Ideal S1x8 .i32) (c : Fin 8) : clsK x1 c (ix2 0 0) = x1 (ix2 0 c) := by
  fin_cases c <;> exact congrArg x1 (by funext a; fin_cases a <;> rfl)

theorem sliceK_apply (a : FVec Ideal S1024x8 .f32) (r : Fin 1024) (c : Fin 8) : sliceK a c (ix2 r 0) = a (ix2 r c) := by
  fin_cases c <;> pointwise [sliceK]

theorem layerK_apply (acc : FVec Ideal S1024x8 .f32) (v : Vec Ideal S1024x75 .f32) (lab : Vec Ideal S1024x75 .i32) (x1 : Vec Ideal S1x8 .i32)
    (r : Fin 1024) (c : Fin 8) :
    layerK acc v lab x1 (ix2 r c) = acc (ix2 r c) + vote (A := 1024) (B := 75) v lab (x1 (ix2 0 c)) r := by
  unfold layerK vote
  pointwise []
  rw [colsK_apply, colK_apply, clsK_apply, View.ld_unit_lit _ v (by decide), View.ld_unit_lit _ lab (by decide)]
  congr 1
  refine Finset.sum_congr rfl fun k _ => ?_
  rw [weight_apply]
  pointwise [k6_pay3]

theorem finalK_apply (a : FVec Ideal S1024x8 .f32) (cali : FVec Ideal S1x1024 .f32) (r : Fin 1024) (c : Fin 8) :
    finalK a cali (ix2 r c) = (∑ k : Fin 1024, ind (a (ix2 r c) ≤ cali (ix2 0 k))) * ((1000⁻¹ : ℝ) : EReal) := by
  unfold finalK
  pointwise []
  rw [colsK_apply, cntK_apply, sliceK_apply, IdealRules.named_const.ideal_named_scalar _ _ _ _ rfl]

/-- The score of every row at every class: its votes over the five layers. -/
def alpha (cls : Fin 8 → BitVec 32) (v : Fin 5 → Mat 1024 75) (lab : Fin 5 → S1024x75.Idx → BitVec 32) (r : Fin 1024) (c : Fin 8) : EReal :=
  ∑ i, vote (v i) (lab i) (cls c) r

/-- The share of calibration scores at least a row's score, at every class; the scores stand in `n` lanes. -/
def share (n : Nat) (cali : Fin n → EReal) (a : Fin 1024 → Fin 8 → EReal) : Mat 1024 8 :=
  fun j => (∑ k, ind (a (j 0) (j 1) ≤ cali k)) * ((1000⁻¹ : ℝ) : EReal)

section Arrays
variable (V : (c : Dev nD) → (b : Ref sig .tc) → Buf (Elt Ideal) ((c : Thread nD τ).loc b)) (c : Dev nD)

theorem out6_12_value (x0 : Vec Ideal S1x1024 .f32) (x1 : Vec Ideal S1x8 .i32) (x2 : Vec Ideal S1024x75 .f32) (x3 : Vec Ideal S1024x75 .i32)
    (x4 : Vec Ideal S1024x75 .f32) (x5 : Vec Ideal S1024x75 .i32) (x6 : Vec Ideal S1024x75 .f32) (x7 : Vec Ideal S1024x75 .i32)
    (x8 : Vec Ideal S1024x75 .f32) (x9 : Vec Ideal S1024x75 .i32) (x10 : Vec Ideal S1024x75 .f32) (x11 : Vec Ideal S1024x75 .i32) :
    finalK (layerK (layerK (layerK (layerK (layerK (k6_pay1 (F := Ideal)) x2 x3 x1) x4 x5 x1) x6 x7 x1) x8 x9 x1) x10 x11 x1)
      (k6_pay54 (View.ld x0 r6_9)) = share 1024 (fun k => x0 (ix2 0 k))
        (alpha (fun c => x1 (ix2 0 c)) ![x2, x4, x6, x8, x10] ![x3, x5, x7, x9, x11]) := by
  refine ext_ix2 fun r c => ?_
  rw [finalK_apply, layerK_apply, layerK_apply, layerK_apply, layerK_apply, layerK_apply, View.ld_unit_lit _ x0 (by decide)]
  have h0 : k6_pay1 (F := Ideal) (ix2 r c) = 0 := by pointwise [k6_pay1]
  have h1 : ∀ k, k6_pay54 x0 (ix2 0 k) = x0 (ix2 0 k) := by intro k; pointwise [k6_pay54]
  unfold share alpha
  simp only [h0, h1, Fin.sum_univ_five, zero_add]
  rfl

set_option maxHeartbeats 1000000 in
/-- The epilogue's region has one point, so every block is its whole array. -/
theorem blocks6 (t : Fin cfg6.N) :
    iblk6 V c 0 t = V c main_v54 ∧
    iblk6 V c 1 t = V c main_v55 ∧
    iblk6 V c 2 t = V c main_values ∧
    iblk6 V c 3 t = V c main_v13 ∧
    iblk6 V c 4 t = V c main_values_3 ∧
    iblk6 V c 5 t = V c main_v22 ∧
    iblk6 V c 6 t = V c main_values_8 ∧
    iblk6 V c 7 t = V c main_v31 ∧
    iblk6 V c 8 t = V c main_values_13 ∧
    iblk6 V c 9 t = V c main_v40 ∧
    iblk6 V c 10 t = V c main_values_18 ∧
    iblk6 V c 11 t = V c main_v49 := by
  refine ⟨?_, ?_, ?_, ?_, ?_, ?_, ?_, ?_, ?_, ?_, ?_, ?_⟩ <;>
    (funext y; blk_simp [iblk6]; exact congrArg _ (by blk_ext [whole_index]))

set_option maxHeartbeats 1000000 in
theorem region6_12 : (dat6 V c).arrAt 12 cfg6.N = share 1024 (fun k => V c main_v54 (ix2 0 k))
    (alpha (fun l => V c main_v55 (ix2 0 l)) ![V c main_values, V c main_values_3, V c main_values_8, V c main_values_13, V c main_values_18]
      ![V c main_v13, V c main_v22, V c main_v31, V c main_v40, V c main_v49]) := by
  refine (dat6 V c).arrAt_eq_of_covers 12 _ (by decide +kernel) fun t hf y => ?_
  blk_simp
  rw [after6_12, out6_12_eq, out6_12_value]; frame_out
  obtain ⟨b0, b1, b2, b3, b4, b5, b6, b7, b8, b9, b10, b11⟩ := blocks6 V c t
  rw [b0, b1, b2, b3, b4, b5, b6, b7, b8, b9, b10, b11]
  exact congrArg (share _ _ _) (by blk_ext [whole_index])

end Arrays

end Cert.Knn
-- ==== Proof.Scatter.lean ====
module

public import Idealize.ShloMosaic.Lib.Routing.OpsOne

@[expose] public section

/-! A row of entries written into a one-row array from its first lane on. -/

namespace Cert.Knn

open Idealize.ShloMosaic Idealize.ShloMosaic.ValueIdx Idealize.ShloMosaic.Routing

/-- Where an update of a row goes, its start read from a pair of index words. -/
theorem lands_row {R C U w : Nat} (d : ScatterDims (shape2 R C) (shape1 2) (shape1 U)) (hiw : d.insertedWindowDims = [0])
    (hsd : d.scatterDimsToOperandDims = [0, 1]) (hivd : d.indexVectorDim = 0) (idx : IVec (shape1 2) w) (k : (shape1 U).Idx) (r : Fin R) (c : Fin C) :
    d.resultIdx? k idx = some (ix2 r c) ↔ (idx (ix1 (0 : Fin 2))).toInt = r.val ∧ (idx (ix1 (1 : Fin 2))).toInt + ((k 0).val : Int) = c.val := by
  have h0 : d.window k 0 = 0 := by
    unfold ScatterDims.window
    rw [dif_neg fun h => (of_decide_eq_true (List.mem_filter.1 h).2) (by rw [hiw]; simp)]
  have h1 : d.window k 1 = (k 0).val := by
    have hk : d.sKept = [1] := by
      show (shape2 R C).kept d.insertedWindowDims = _
      rw [hiw]
      rfl
    unfold ScatterDims.window
    rw [dif_pos (by rw [hk]; simp)]
    exact congrArg (fun t => (k t).val) (Subsingleton.elim (α := Fin 1) _ 0)
  rw [resultIdx?_ix2, start_pair d hsd hivd, start_pair d hsd hivd, h0, h1]
  omega

/-- A row written at the first lane of a one-row array: the row where it reaches, the array beyond. -/
theorem scatter_row {α : Type} {C U w : Nat} (d : ScatterDims (shape2 1 C) (shape1 2) (shape1 U)) (hiw : d.insertedWindowDims = [0])
    (hsd : d.scatterDimsToOperandDims = [0, 1]) (hivd : d.indexVectorDim = 0) (x : (shape2 1 C).Idx → α) (idx : IVec (shape1 2) w)
    (h0 : (idx (ix1 (0 : Fin 2))).toInt = 0) (h1 : (idx (ix1 (1 : Fin 2))).toInt = 0) (upd : (shape1 U).Idx → α) (c : Fin C) :
    Host.scatter d (fun _ b => b) x idx upd (ix2 0 c) = if h : c.val < U then upd (ix1 ⟨c.val, h⟩) else x (ix2 0 c) := by
  by_cases h : c.val < U
  · rw [dif_pos h]
    refine scatter_set_hit d x idx upd _ _ (fun k hk => congrArg upd ?_) (ix1 ⟨c.val, h⟩)
      ((lands_row d hiw hsd hivd idx _ 0 c).2 ⟨by simpa using h0, by rw [h1]; exact Int.zero_add _⟩)
    have hq := ((lands_row d hiw hsd hivd idx k 0 c).1 hk).2
    rw [h1] at hq
    rw [eq_ix1 k]
    congr 1
    exact Fin.ext (by show (k 0).val = c.val; omega)
  · rw [dif_neg h]
    refine scatter_set_miss d x idx upd _ fun k hk => ?_
    have hq := ((lands_row d hiw hsd hivd idx k 0 c).1 hk).2
    have := (k 0).isLt
    rw [h1] at hq
    have hU : (k 0).val < U := (k 0).isLt
    omega

end Cert.Knn
-- ==== Proof.Hosts.lean ====
module

public import proofs.«01_k».proof.Proof.Epi
public import proofs.«01_k».proof.Proof.Scatter
public import Idealize.ShloMosaic.Lib.KernelVsHost
public import proofs.«01_k».proof.Proof.Gen.KernelIdeal.Frame
public import proofs.«01_k».proof.Proof.Gen.ReferenceIdeal

@[expose] public section

set_option maxRecDepth 16384

noncomputable section

/-! The host's steps between the calls: the padded keys, the 75 nearest keys of every query and their labels. -/

namespace Cert.Knn

open Idealize.ShloMosaic Idealize.ShloMosaic.TcCoe Cert.KernelIdeal Cert.KernelIdeal.Gen
open Idealize.ShloMosaic.Pipeline (Dat Cfg Window)

variable (m : (ℓ : Loc nD τ sig) → Buf (Elt Ideal) ℓ) (ρ : Dev nD → PrngReg) (c : Dev nD)

/-- The labels of the neighbours named by position, a negative position counted from the end. -/
def pick (labels : S100000.Idx → BitVec 32) (idx : S1024x75.Idx → BitVec 32) : S1024x75.Idx → BitVec 32 :=
  Host.gather gather_S100000_S1024x75x1_S1024x75_n_0_n_n_0_2_1 labels (broadcastInDim S1024x75x1 ![0, 1] bcast_S1024x75_S1024x75x1_0_1
    (select (cmpi .slt idx (broadcastInDim S1024x75 ![] bcast_S_S1024x75 (constantI S_ 32 0#32)))
      (addi idx (broadcastInDim S1024x75 ![] bcast_S_S1024x75 (constantI S_ 32 100000#32))) idx))

/-- The 75 greatest entries of every row, and their positions. -/
def top75 (s : FVec Ideal S1024x100352 .f32) : FVec Ideal S1024x75 .f32 × IVec S1024x75 32 :=
  Host.topK S1024x75 1 (FloatOps.cmpfTotal .gt) s sliceFits_S1024x100352_S1024x75

/-- The scores of every key, without the padding. -/
def sc {D : Nat} (q : Mat 1024 D) (K : Mat 100000 D) : Mat 1024 100000 := fun j => score q K (j 0) (j 1)

/-- The 75 nearest keys of every row: their scores and their positions. -/
def near {D : Nat} (q : Mat 1024 D) (K : Mat 100000 D) : FVec Ideal S1024x75 .f32 × IVec S1024x75 32 :=
  Host.topK S1024x75 1 (FloatOps.cmpfTotal .gt) (show FVec Ideal Cert.ReferenceIdeal.S1024x100000 .f32 from sc q K) Cert.ReferenceIdeal.Gen.facts₀.sliceFits_S1024x100000_S1024x75

/-- The padding never stands among the nearest keys. -/
theorem top75_scores {D : Nat} (q : Mat 1024 D) (K' : Mat 100352 D) (K : Mat 100000 D)
    (h : ∀ (r : Fin 100000) d, K' (ix2 (Fin.castAdd 352 r) d) = K (ix2 r d)) : top75 (scores (B := 100352) q K') = near q K := by
  unfold top75 near
  refine topK_pad (n := 100000) (m := 352) (R := 1024) (k := 75) (sc q K) (scores (B := 100352) q K') _ ?_ ?_ ?_ _ _ (by norm_num)
  · intro a
    simp [FloatOps.cmpfTotal, Ideal.cmpTotal, Ideal.cmp, CmpDirection.ordered]
  · intro r l
    simp [scores, sc]
    unfold score
    simp only [h]
  · intro r l
    simp [scores]

/-! A buffer that a stretch does not write keeps its contents from one region's exit to the next one's. -/

theorem keep1 (r : Ref sig .tc) (h : r ∉ hostOps1_W ++ hostOps1_1_W) (h' : ∀ w : Fin cfg1.W, Pipeline.arrRef spec1 w = r → (cfg1.win w).isOut = false) :
    W5 m ρ c (Proc.devRef .tc r) = W2 m ρ c (Proc.devRef .tc r) := by
  rw [List.mem_append, not_or] at h
  rw [W5_of m ρ c r h', W4_of m ρ c r h.2, W3_of m ρ c r h.1]

theorem keep2 (r : Ref sig .tc) (h : r ∉ hostOps2_W ++ hostOps2_1_W) (h' : ∀ w : Fin cfg2.W, Pipeline.arrRef spec2 w = r → (cfg2.win w).isOut = false) :
    W8 m ρ c (Proc.devRef .tc r) = W5 m ρ c (Proc.devRef .tc r) := by
  rw [List.mem_append, not_or] at h
  rw [W8_of m ρ c r h', W7_of m ρ c r h.2, W6_of m ρ c r h.1]

theorem keep3 (r : Ref sig .tc) (h : r ∉ hostOps3_W ++ hostOps3_1_W) (h' : ∀ w : Fin cfg3.W, Pipeline.arrRef spec3 w = r → (cfg3.win w).isOut = false) :
    W11 m ρ c (Proc.devRef .tc r) = W8 m ρ c (Proc.devRef .tc r) := by
  rw [List.mem_append, not_or] at h
  rw [W11_of m ρ c r h', W10_of m ρ c r h.2, W9_of m ρ c r h.1]

theorem keep4 (r : Ref sig .tc) (h : r ∉ hostOps4_W ++ hostOps4_1_W) (h' : ∀ w : Fin cfg4.W, Pipeline.arrRef spec4 w = r → (cfg4.win w).isOut = false) :
    W14 m ρ c (Proc.devRef .tc r) = W11 m ρ c (Proc.devRef .tc r) := by
  rw [List.mem_append, not_or] at h
  rw [W14_of m ρ c r h', W13_of m ρ c r h.2, W12_of m ρ c r h.1]

theorem keep5 (r : Ref sig .tc) (h : r ∉ hostOps5_W ++ hostOps5_1_W) (h' : ∀ w : Fin cfg5.W, Pipeline.arrRef spec5 w = r → (cfg5.win w).isOut = false) :
    W17 m ρ c (Proc.devRef .tc r) = W14 m ρ c (Proc.devRef .tc r) := by
  rw [List.mem_append, not_or] at h
  rw [W17_of m ρ c r h', W16_of m ρ c r h.2, W15_of m ρ c r h.1]

theorem values2 : W6 m ρ c (Proc.devRef .tc main_values) = (top75 (W5 m ρ c (Proc.devRef .tc main_v6))).1 := by
  unfold top75
  show StableHlo.after hostOps2 _ _ = _
  after_results

theorem labels2 : W6 m ρ c (Proc.devRef .tc main_v13) = pick (W5 m ρ c (Proc.devRef .tc main_arg15)) (top75 (W5 m ρ c (Proc.devRef .tc main_v6))).2 := by
  unfold top75 pick
  show StableHlo.after hostOps2 _ _ = _
  after_results

theorem values3 : W9 m ρ c (Proc.devRef .tc main_values_3) = (top75 (W8 m ρ c (Proc.devRef .tc main_v15))).1 := by
  unfold top75
  show StableHlo.after hostOps3 _ _ = _
  after_results

theorem labels3 : W9 m ρ c (Proc.devRef .tc main_v22) = pick (W8 m ρ c (Proc.devRef .tc main_arg15)) (top75 (W8 m ρ c (Proc.devRef .tc main_v15))).2 := by
  unfold top75 pick
  show StableHlo.after hostOps3 _ _ = _
  after_results

theorem values4 : W12 m ρ c (Proc.devRef .tc main_values_8) = (top75 (W11 m ρ c (Proc.devRef .tc main_v24))).1 := by
  unfold top75
  show StableHlo.after hostOps4 _ _ = _
  after_results

theorem labels4 : W12 m ρ c (Proc.devRef .tc main_v31) = pick (W11 m ρ c (Proc.devRef .tc main_arg15)) (top75 (W11 m ρ c (Proc.devRef .tc main_v24))).2 := by
  unfold top75 pick
  show StableHlo.after hostOps4 _ _ = _
  after_results

theorem values5 : W15 m ρ c (Proc.devRef .tc main_values_13) = (top75 (W14 m ρ c (Proc.devRef .tc main_v33))).1 := by
  unfold top75
  show StableHlo.after hostOps5 _ _ = _
  after_results

theorem labels5 : W15 m ρ c (Proc.devRef .tc main_v40) = pick (W14 m ρ c (Proc.devRef .tc main_arg15)) (top75 (W14 m ρ c (Proc.devRef .tc main_v33))).2 := by
  unfold top75 pick
  show StableHlo.after hostOps5 _ _ = _
  after_results

theorem values6 : W18 m ρ c (Proc.devRef .tc main_values_18) = (top75 (W17 m ρ c (Proc.devRef .tc main_v42))).1 := by
  unfold top75
  show StableHlo.after hostOps6 _ _ = _
  after_results

theorem labels6 : W18 m ρ c (Proc.devRef .tc main_v49) = pick (W17 m ρ c (Proc.devRef .tc main_arg15)) (top75 (W17 m ρ c (Proc.devRef .tc main_v42))).2 := by
  unfold top75 pick
  show StableHlo.after hostOps6 _ _ = _
  after_results

/-- An array padded below, read above the padding. -/
theorem pad_low {A B P : Nat} (x : (⟨2, ![A, B]⟩ : Shape).Idx → EReal) {u : Shape} (v : u.Idx → EReal)
    (h : (⟨2, ![A, B]⟩ : Shape).Pads ![0, 0] ![P, 0] ![0, 0] ⟨2, ![A + P, B]⟩) (h_ : 0 < u.numel) (r : Fin A) (d : Fin B) :
    pad ⟨2, ![A + P, B]⟩ ![0, 0] ![P, 0] ![0, 0] x v h h_ (ix2 (Fin.castAdd P r) d) = x (ix2 r d) := by
  exact pad_apply_of_inside _ _ _ x v h h_ _ _ (by intro a; fin_cases a <;> simp [ix2])

/-! The keys at a region's entry: the first 100000 rows are the argument. -/

theorem keys1 (r : Fin 100000) (d : Fin 83) :
    W4 m ρ c (Proc.devRef .tc main_v5) (ix2 (n0 := 100352) (n1 := 83) (Fin.castAdd 352 r) d) = m ((c : Thread nD τ).loc main_arg9) (ix2 (n0 := 100000) (n1 := 83) r d) := by
  have h : W4 m ρ c (Proc.devRef .tc main_v5) = pad S100352x83 ![0, 0] ![352, 0] ![0, 0] (W3 m ρ c (Proc.devRef .tc main_arg9))
      (sitofp (F := Ideal) .f32 (W3 m ρ c (Proc.devRef .tc main_c))) pads_S100000x83_S100352x83_03520_000 h_S_ := by
    show StableHlo.after hostOps1_1 _ _ = _
    after_results
    rfl
  rw [h, W3_args m ρ c main_arg9 (by decide)]
  exact pad_low _ _ _ _ r d

theorem keys2 (r : Fin 100000) (d : Fin 128) :
    W7 m ρ c (Proc.devRef .tc main_v14) (ix2 (n0 := 100352) (n1 := 128) (Fin.castAdd 352 r) d) = m ((c : Thread nD τ).loc main_arg10) (ix2 (n0 := 100000) (n1 := 128) r d) := by
  have h : W7 m ρ c (Proc.devRef .tc main_v14) = pad S100352x128 ![0, 0] ![352, 0] ![0, 0] (W6 m ρ c (Proc.devRef .tc main_arg10))
      (sitofp (F := Ideal) .f32 (W6 m ρ c (Proc.devRef .tc main_c_2))) pads_S100000x128_S100352x128_03520_000 h_S_ := by
    show StableHlo.after hostOps2_1 _ _ = _
    after_results
    rfl
  rw [h, W6_args m ρ c main_arg10 (by decide)]
  exact pad_low _ _ _ _ r d

theorem keys3 (r : Fin 100000) (d : Fin 128) :
    W10 m ρ c (Proc.devRef .tc main_v23) (ix2 (n0 := 100352) (n1 := 128) (Fin.castAdd 352 r) d) = m ((c : Thread nD τ).loc main_arg11) (ix2 (n0 := 100000) (n1 := 128) r d) := by
  have h : W10 m ρ c (Proc.devRef .tc main_v23) = pad S100352x128 ![0, 0] ![352, 0] ![0, 0] (W9 m ρ c (Proc.devRef .tc main_arg11))
      (sitofp (F := Ideal) .f32 (W9 m ρ c (Proc.devRef .tc main_c_7))) pads_S100000x128_S100352x128_03520_000 h_S_ := by
    show StableHlo.after hostOps3_1 _ _ = _
    after_results
    rfl
  rw [h, W9_args m ρ c main_arg11 (by decide)]
  exact pad_low _ _ _ _ r d

theorem keys4 (r : Fin 100000) (d : Fin 128) :
    W13 m ρ c (Proc.devRef .tc main_v32) (ix2 (n0 := 100352) (n1 := 128) (Fin.castAdd 352 r) d) = m ((c : Thread nD τ).loc main_arg12) (ix2 (n0 := 100000) (n1 := 128) r d) := by
  have h : W13 m ρ c (Proc.devRef .tc main_v32) = pad S100352x128 ![0, 0] ![352, 0] ![0, 0] (W12 m ρ c (Proc.devRef .tc main_arg12))
      (sitofp (F := Ideal) .f32 (W12 m ρ c (Proc.devRef .tc main_c_12))) pads_S100000x128_S100352x128_03520_000 h_S_ := by
    show StableHlo.after hostOps4_1 _ _ = _
    after_results
    rfl
  rw [h, W12_args m ρ c main_arg12 (by decide)]
  exact pad_low _ _ _ _ r d

theorem keys5 (r : Fin 100000) (d : Fin 8) :
    W16 m ρ c (Proc.devRef .tc main_v41) (ix2 (n0 := 100352) (n1 := 8) (Fin.castAdd 352 r) d) = m ((c : Thread nD τ).loc main_arg13) (ix2 (n0 := 100000) (n1 := 8) r d) := by
  have h : W16 m ρ c (Proc.devRef .tc main_v41) = pad S100352x8 ![0, 0] ![352, 0] ![0, 0] (W15 m ρ c (Proc.devRef .tc main_arg13))
      (sitofp (F := Ideal) .f32 (W15 m ρ c (Proc.devRef .tc main_c_17))) pads_S100000x8_S100352x8_03520_000 h_S_ := by
    show StableHlo.after hostOps5_1 _ _ = _
    after_results
    rfl
  rw [h, W15_args m ρ c main_arg13 (by decide)]
  exact pad_low _ _ _ _ r d

end Cert.Knn
-- ==== Proof.Kern.lean ====
module

public import proofs.«01_k».proof.Proof.Hosts

@[expose] public section

set_option maxRecDepth 16384

noncomputable section

/-! What the kernel leaves in its result, as one function of the arguments. -/

namespace Cert.Knn

open Idealize.ShloMosaic Idealize.ShloMosaic.TcCoe Cert.KernelIdeal Cert.KernelIdeal.Gen
open Idealize.ShloMosaic.Pipeline (Dat Cfg Window)

/-- A dense layer with its bias in a vector. -/
def layer {A C : Nat} (x : Mat 1024 A) (W : Mat A C) (b : (⟨1, ![C]⟩ : Shape).Idx → EReal) : Mat 1024 C :=
  dense x W fun l => b (ix1 l)

/-- The credibilities, the five layers' queries and their keys given. -/
def verdict (q0 : Mat 1024 83) (q1 q2 q3 : Mat 1024 128) (q4 : Mat 1024 8) (K0 : Mat 100000 83) (K1 K2 K3 : Mat 100000 128) (K4 : Mat 100000 8)
    (cali : (⟨1, ![1000]⟩ : Shape).Idx → EReal) (lab : S100000.Idx → BitVec 32) (cls : S8.Idx → BitVec 32) : Mat 1024 8 :=
  share 1000 (fun k => cali (ix1 k)) (alpha (fun l => cls (ix1 l))
    ![(near q0 K0).1, (near q1 K1).1, (near q2 K2).1, (near q3 K3).1, (near q4 K4).1]
    ![pick lab (near q0 K0).2, pick lab (near q1 K1).2, pick lab (near q2 K2).2, pick lab (near q3 K3).2, pick lab (near q4 K4).2])

theorem weight_nonneg (d : EReal) : 0 ≤ weight d := by
  unfold weight
  split_ifs with h
  · generalize max (-d) 0 = x at h
    induction x with
    | bot => simp at h
    | top => exact le_rfl
    | coe r =>
      have hr : 0 < r := by exact_mod_cast h
      show 0 ≤ if r < 0 then (⊥ : EReal) else if r = 0 then ⊤ else (((Real.sqrt r)⁻¹ : ℝ) : EReal)
      rw [if_neg hr.not_gt, if_neg hr.ne']
      exact_mod_cast inv_nonneg.2 (Real.sqrt_nonneg r)
  · exact le_rfl

theorem ind_nonneg (p : Prop) [Decidable p] : 0 ≤ ind p := by
  unfold ind
  split_ifs <;> simp

theorem alpha_nonneg (cls : Fin 8 → BitVec 32) (v : Fin 5 → Mat 1024 75) (lab : Fin 5 → S1024x75.Idx → BitVec 32) (r : Fin 1024) (l : Fin 8) :
    0 ≤ alpha cls v lab r l := by
  unfold alpha vote
  exact Finset.sum_nonneg fun i _ => Finset.sum_nonneg fun k _ => mul_nonneg (weight_nonneg _) (ind_nonneg _)

/-- Lanes at −∞ count for nobody. -/
theorem share_pad (cali : Fin 1024 → EReal) (cali' : Fin 1000 → EReal) (a : Fin 1024 → Fin 8 → EReal) (ha : ∀ r l, 0 ≤ a r l)
    (h : ∀ k : Fin 1024, cali k = if h : k.val < 1000 then cali' ⟨k.val, h⟩ else ⊥) : share 1024 cali a = share 1000 cali' a := by
  funext j
  unfold share
  congr 1
  rw [Fin.sum_univ_add (a := 1000) (b := 24) fun k => ind (a (j 0) (j 1) ≤ cali k)]
  have h1 : ∀ k : Fin 1000, cali (Fin.castAdd 24 k) = cali' k := fun k => by rw [h]; exact dif_pos k.isLt
  have h2 : ∀ k : Fin 24, cali (Fin.natAdd 1000 k) = ⊥ := fun k => by
    rw [h]; exact dif_neg (by simp)
  have h3 : ¬ a (j 0) (j 1) ≤ ⊥ := fun hle => by
    have := (ha (j 0) (j 1)).trans hle
    simp at this
  simp only [h1, h2]
  simp [ind, h3]

variable (m : (ℓ : Loc nD τ sig) → Buf (Elt Ideal) ℓ) (ρ : Dev nD → PrngReg) (c : Dev nD)

/-- The calibration row: the scores, then −∞. -/
theorem cali_row (k : Fin 1024) : V18 m ρ c main_v54 (ix2 (n0 := 1) (n1 := 1024) 0 k)
    = if h : k.val < 1000 then m ((c : Thread nD τ).loc main_arg14) (ix1 (n0 := 1000) ⟨k.val, h⟩) else (⊥ : EReal) := by
  have h : W18 m ρ c (Proc.devRef .tc main_v54) = Host.scatter scatter_S1x1024_S2_S1000_0_0_01_0 (fun _ b => b)
      (broadcastInDim S1x1024 ![] bcast_S_S1x1024 (constant (F := Ideal) S_ .f32 0xFF800000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (W17 m ρ c (Proc.devRef .tc main_arg14)) := by
    show StableHlo.after hostOps6 _ _ = _
    after_results
  show W18 m ρ c (Proc.devRef .tc main_v54) _ = _
  rw [h, W17_args m ρ c main_arg14 (by decide)]
  refine (scatter_row scatter_S1x1024_S2_S1000_0_0_01_0 rfl rfl rfl _ _ (by decide) (by decide) _ k).trans ?_
  split_ifs
  · rfl
  · pointwise
    exact bot_word

/-- The class row. -/
theorem cls_row (l : Fin 8) : V18 m ρ c main_v55 (ix2 (n0 := 1) (n1 := 8) 0 l) = m ((c : Thread nD τ).loc main_arg16) (ix1 (n0 := 8) l) := by
  have h : W18 m ρ c (Proc.devRef .tc main_v55) = shapeCast S1x8 (W17 m ρ c (Proc.devRef .tc main_arg16)) shapeCasts_S8_S1x8 := by
    show StableHlo.after hostOps6 _ _ = _
    after_results
    rfl
  show W18 m ρ c (Proc.devRef .tc main_v55) _ = _
  rw [h, W17_args m ρ c main_arg16 (by decide)]
  pointwise

/-! The network's layers on the arguments. -/

theorem bias0 : W1 m ρ c (Proc.devRef .tc main_v0) = shapeCast S1x128 (m ((c : Thread nD τ).loc main_arg2)) shapeCasts_S128_S1x128 := by
  show StableHlo.after hostOps0 _ _ = _
  after_results
  rfl

theorem bias1 : W1 m ρ c (Proc.devRef .tc main_v1) = shapeCast S1x128 (m ((c : Thread nD τ).loc main_arg4)) shapeCasts_S128_S1x128 := by
  show StableHlo.after hostOps0 _ _ = _
  after_results
  rfl

theorem bias2 : W1 m ρ c (Proc.devRef .tc main_v2) = shapeCast S1x128 (m ((c : Thread nD τ).loc main_arg6)) shapeCasts_S128_S1x128 := by
  show StableHlo.after hostOps0 _ _ = _
  after_results
  rfl

theorem bias3 : W1 m ρ c (Proc.devRef .tc main_v3) = shapeCast S1x8 (m ((c : Thread nD τ).loc main_arg8)) shapeCasts_S8_S1x8 := by
  show StableHlo.after hostOps0 _ _ = _
  after_results
  rfl

/-- A vector of 128 read as a one-row array. -/
theorem row128 (b : S128.Idx → EReal) (h : S128.ShapeCasts S1x128) :
    (fun l => shapeCast S1x128 b h (ix2 (n0 := 1) (n1 := 128) 0 l)) = fun l => b (ix1 (n0 := 128) l) := by
  funext l
  pointwise

/-- A vector of 8 read as a one-row array. -/
theorem row8 (b : S8.Idx → EReal) (h : S8.ShapeCasts S1x8) :
    (fun l => shapeCast S1x8 b h (ix2 (n0 := 1) (n1 := 8) 0 l)) = fun l => b (ix1 (n0 := 8) l) := by
  funext l
  pointwise

/-- The first hidden layer on the arguments. -/
def out1 : Mat 1024 128 := relu (layer (A := 83) (C := 128) (m ((c : Thread nD τ).loc main_arg0)) (m ((c : Thread nD τ).loc main_arg1)) (m ((c : Thread nD τ).loc main_arg2)))
/-- The second hidden layer. -/
def out2 : Mat 1024 128 := relu (layer (A := 128) (C := 128) (out1 m c) (m ((c : Thread nD τ).loc main_arg3)) (m ((c : Thread nD τ).loc main_arg4)))
/-- The third hidden layer. -/
def out3 : Mat 1024 128 := relu (layer (A := 128) (C := 128) (out2 m c) (m ((c : Thread nD τ).loc main_arg5)) (m ((c : Thread nD τ).loc main_arg6)))
/-- The class probabilities. -/
def out4 : Mat 1024 8 := softmax (layer (A := 128) (C := 8) (out3 m c) (m ((c : Thread nD τ).loc main_arg7)) (m ((c : Thread nD τ).loc main_arg8)))

theorem hid1_eq : hid1 (V1 m ρ) c = out1 m c := by
  unfold hid1 out1 layer
  have h : (fun l => V1 m ρ c main_v0 (ix2 (n0 := 1) (n1 := 128) 0 l)) = fun l => m ((c : Thread nD τ).loc main_arg2) (ix1 (n0 := 128) l) :=
    (congrArg (fun f => fun l => f (ix2 (n0 := 1) (n1 := 128) 0 l)) (bias0 m ρ c)).trans (row128 _ _)
  rw [h, show V1 m ρ c main_arg0 = _ from W1_args m ρ c main_arg0 (by decide), show V1 m ρ c main_arg1 = _ from W1_args m ρ c main_arg1 (by decide)]

theorem hid2_eq : hid2 (V1 m ρ) c = out2 m c := by
  unfold hid2 out2 layer
  have h : (fun l => V1 m ρ c main_v1 (ix2 (n0 := 1) (n1 := 128) 0 l)) = fun l => m ((c : Thread nD τ).loc main_arg4) (ix1 (n0 := 128) l) :=
    (congrArg (fun f => fun l => f (ix2 (n0 := 1) (n1 := 128) 0 l)) (bias1 m ρ c)).trans (row128 _ _)
  rw [h, hid1_eq, show V1 m ρ c main_arg3 = _ from W1_args m ρ c main_arg3 (by decide)]

theorem hid3_eq : hid3 (V1 m ρ) c = out3 m c := by
  unfold hid3 out3 layer
  have h : (fun l => V1 m ρ c main_v2 (ix2 (n0 := 1) (n1 := 128) 0 l)) = fun l => m ((c : Thread nD τ).loc main_arg6) (ix1 (n0 := 128) l) :=
    (congrArg (fun f => fun l => f (ix2 (n0 := 1) (n1 := 128) 0 l)) (bias2 m ρ c)).trans (row128 _ _)
  rw [h, hid2_eq, show V1 m ρ c main_arg5 = _ from W1_args m ρ c main_arg5 (by decide)]

theorem prob_eq : prob (V1 m ρ) c = out4 m c := by
  unfold prob out4 layer
  have h : (fun l => V1 m ρ c main_v3 (ix2 (n0 := 1) (n1 := 8) 0 l)) = fun l => m ((c : Thread nD τ).loc main_arg8) (ix1 (n0 := 8) l) :=
    (congrArg (fun f => fun l => f (ix2 (n0 := 1) (n1 := 8) 0 l)) (bias3 m ρ c)).trans (row8 _ _)
  rw [h, hid3_eq, show V1 m ρ c main_arg7 = _ from W1_args m ρ c main_arg7 (by decide)]

/-! The nearest keys a region's scores yield. -/

theorem near1 : top75 (W5 m ρ c (Proc.devRef .tc main_v6)) = near (D := 83) (m ((c : Thread nD τ).loc main_arg0)) (m ((c : Thread nD τ).loc main_arg9)) := by
  rw [show W5 m ρ c (Proc.devRef .tc main_v6) = _ from (W5_arr m ρ c 2).trans (region1 (V4 m ρ) c), top75_scores _ _ _ (keys1 m ρ c),
    show V4 m ρ c main_arg0 = _ from W4_args m ρ c main_arg0 (by decide)]

theorem near2 : top75 (W8 m ρ c (Proc.devRef .tc main_v15)) = near (out1 m c) (m ((c : Thread nD τ).loc main_arg10)) := by
  have hq : W7 m ρ c (Proc.devRef .tc main_v4_0) = out1 m c := by
    rw [W7_of m ρ c main_v4_0 (by decide), W6_of m ρ c main_v4_0 (by decide), keep1 m ρ c main_v4_0 (by decide) (by decide)]
    exact (W2_arr m ρ c 9).trans ((region0_9 (V1 m ρ) c).trans (hid1_eq m ρ c))
  rw [show W8 m ρ c (Proc.devRef .tc main_v15) = _ from (W8_arr m ρ c 2).trans (region2 (V7 m ρ) c), top75_scores _ _ _ (keys2 m ρ c),
    show V7 m ρ c main_v4_0 = _ from hq]

theorem near3 : top75 (W11 m ρ c (Proc.devRef .tc main_v24)) = near (out2 m c) (m ((c : Thread nD τ).loc main_arg11)) := by
  have hq : W10 m ρ c (Proc.devRef .tc main_v4_1) = out2 m c := by
    rw [W10_of m ρ c main_v4_1 (by decide), W9_of m ρ c main_v4_1 (by decide), keep2 m ρ c main_v4_1 (by decide) (by decide),
      keep1 m ρ c main_v4_1 (by decide) (by decide)]
    exact (W2_arr m ρ c 10).trans ((region0_10 (V1 m ρ) c).trans (hid2_eq m ρ c))
  rw [show W11 m ρ c (Proc.devRef .tc main_v24) = _ from (W11_arr m ρ c 2).trans (region3 (V10 m ρ) c), top75_scores _ _ _ (keys3 m ρ c),
    show V10 m ρ c main_v4_1 = _ from hq]

theorem near4 : top75 (W14 m ρ c (Proc.devRef .tc main_v33)) = near (out3 m c) (m ((c : Thread nD τ).loc main_arg12)) := by
  have hq : W13 m ρ c (Proc.devRef .tc main_v4_2) = out3 m c := by
    rw [W13_of m ρ c main_v4_2 (by decide), W12_of m ρ c main_v4_2 (by decide), keep3 m ρ c main_v4_2 (by decide) (by decide),
      keep2 m ρ c main_v4_2 (by decide) (by decide), keep1 m ρ c main_v4_2 (by decide) (by decide)]
    exact (W2_arr m ρ c 11).trans ((region0_11 (V1 m ρ) c).trans (hid3_eq m ρ c))
  rw [show W14 m ρ c (Proc.devRef .tc main_v33) = _ from (W14_arr m ρ c 2).trans (region4 (V13 m ρ) c), top75_scores _ _ _ (keys4 m ρ c),
    show V13 m ρ c main_v4_2 = _ from hq]

theorem near5 : top75 (W17 m ρ c (Proc.devRef .tc main_v42)) = near (out4 m c) (m ((c : Thread nD τ).loc main_arg13)) := by
  have hq : W16 m ρ c (Proc.devRef .tc main_v4_3) = out4 m c := by
    rw [W16_of m ρ c main_v4_3 (by decide), W15_of m ρ c main_v4_3 (by decide), keep4 m ρ c main_v4_3 (by decide) (by decide),
      keep3 m ρ c main_v4_3 (by decide) (by decide), keep2 m ρ c main_v4_3 (by decide) (by decide), keep1 m ρ c main_v4_3 (by decide) (by decide)]
    exact (W2_arr m ρ c 12).trans ((region0_12 (V1 m ρ) c).trans (prob_eq m ρ c))
  rw [show W17 m ρ c (Proc.devRef .tc main_v42) = _ from (W17_arr m ρ c 2).trans (region5 (V16 m ρ) c), top75_scores _ _ _ (keys5 m ρ c),
    show V16 m ρ c main_v4_3 = _ from hq]

/-! The neighbours' scores and labels at the last region's entry. -/

theorem entry1 : V18 m ρ c main_values = (near (D := 83) (m ((c : Thread nD τ).loc main_arg0)) (m ((c : Thread nD τ).loc main_arg9))).1
    ∧ V18 m ρ c main_v13 = pick (m ((c : Thread nD τ).loc main_arg15)) (near (D := 83) (m ((c : Thread nD τ).loc main_arg0)) (m ((c : Thread nD τ).loc main_arg9))).2 := by
  have k : ∀ r : Ref sig .tc, r = main_values ∨ r = main_v13 → W18 m ρ c (Proc.devRef .tc r) = W6 m ρ c (Proc.devRef .tc r) := by
    rintro r (rfl | rfl) <;>
    rw [W18_of m ρ c _ (by decide), keep5 m ρ c _ (by decide) (by decide), keep4 m ρ c _ (by decide) (by decide), keep3 m ρ c _ (by decide) (by decide),
      W8_of m ρ c _ (by decide), W7_of m ρ c _ (by decide)]
  exact ⟨(k _ (.inl rfl)).trans (by rw [values2, near1]), (k _ (.inr rfl)).trans (by rw [labels2, near1, W5_args m ρ c main_arg15 (by decide)])⟩

theorem entry2 : V18 m ρ c main_values_3 = (near (out1 m c) (m ((c : Thread nD τ).loc main_arg10))).1
    ∧ V18 m ρ c main_v22 = pick (m ((c : Thread nD τ).loc main_arg15)) (near (out1 m c) (m ((c : Thread nD τ).loc main_arg10))).2 := by
  have k : ∀ r : Ref sig .tc, r = main_values_3 ∨ r = main_v22 → W18 m ρ c (Proc.devRef .tc r) = W9 m ρ c (Proc.devRef .tc r) := by
    rintro r (rfl | rfl) <;>
    rw [W18_of m ρ c _ (by decide), keep5 m ρ c _ (by decide) (by decide), keep4 m ρ c _ (by decide) (by decide),
      W11_of m ρ c _ (by decide), W10_of m ρ c _ (by decide)]
  exact ⟨(k _ (.inl rfl)).trans (by rw [values3, near2]), (k _ (.inr rfl)).trans (by rw [labels3, near2, W8_args m ρ c main_arg15 (by decide)])⟩

theorem entry3 : V18 m ρ c main_values_8 = (near (out2 m c) (m ((c : Thread nD τ).loc main_arg11))).1
    ∧ V18 m ρ c main_v31 = pick (m ((c : Thread nD τ).loc main_arg15)) (near (out2 m c) (m ((c : Thread nD τ).loc main_arg11))).2 := by
  have k : ∀ r : Ref sig .tc, r = main_values_8 ∨ r = main_v31 → W18 m ρ c (Proc.devRef .tc r) = W12 m ρ c (Proc.devRef .tc r) := by
    rintro r (rfl | rfl) <;>
    rw [W18_of m ρ c _ (by decide), keep5 m ρ c _ (by decide) (by decide), W14_of m ρ c _ (by decide), W13_of m ρ c _ (by decide)]
  exact ⟨(k _ (.inl rfl)).trans (by rw [values4, near3]), (k _ (.inr rfl)).trans (by rw [labels4, near3, W11_args m ρ c main_arg15 (by decide)])⟩

theorem entry4 : V18 m ρ c main_values_13 = (near (out3 m c) (m ((c : Thread nD τ).loc main_arg12))).1
    ∧ V18 m ρ c main_v40 = pick (m ((c : Thread nD τ).loc main_arg15)) (near (out3 m c) (m ((c : Thread nD τ).loc main_arg12))).2 := by
  have k : ∀ r : Ref sig .tc, r = main_values_13 ∨ r = main_v40 → W18 m ρ c (Proc.devRef .tc r) = W15 m ρ c (Proc.devRef .tc r) := by
    rintro r (rfl | rfl) <;>
    rw [W18_of m ρ c _ (by decide), W17_of m ρ c _ (by decide), W16_of m ρ c _ (by decide)]
  exact ⟨(k _ (.inl rfl)).trans (by rw [values5, near4]), (k _ (.inr rfl)).trans (by rw [labels5, near4, W14_args m ρ c main_arg15 (by decide)])⟩

theorem entry5 : V18 m ρ c main_values_18 = (near (out4 m c) (m ((c : Thread nD τ).loc main_arg13))).1
    ∧ V18 m ρ c main_v49 = pick (m ((c : Thread nD τ).loc main_arg15)) (near (out4 m c) (m ((c : Thread nD τ).loc main_arg13))).2 :=
  ⟨(values6 m ρ c).trans (by rw [near5]), (labels6 m ρ c).trans (by rw [near5, W17_args m ρ c main_arg15 (by decide)])⟩

/-- The kernel's result as a function of the arguments. -/
def answer : Mat 1024 8 :=
  verdict (m ((c : Thread nD τ).loc main_arg0)) (out1 m c) (out2 m c) (out3 m c) (out4 m c) (m ((c : Thread nD τ).loc main_arg9)) (m ((c : Thread nD τ).loc main_arg10))
    (m ((c : Thread nD τ).loc main_arg11)) (m ((c : Thread nD τ).loc main_arg12)) (m ((c : Thread nD τ).loc main_arg13)) (m ((c : Thread nD τ).loc main_arg14))
    (m ((c : Thread nD τ).loc main_arg15)) (m ((c : Thread nD τ).loc main_arg16))

/-- The last region's result, what it finds being the neighbours' scores, their labels and the two rows. -/
theorem gathered {q0 : Mat 1024 83} {q1 q2 q3 : Mat 1024 128} {q4 : Mat 1024 8} {K0 : Mat 100000 83} {K1 K2 K3 : Mat 100000 128} {K4 : Mat 100000 8}
    {cali : (⟨1, ![1000]⟩ : Shape).Idx → EReal} {lab : S100000.Idx → BitVec 32} {cls : S8.Idx → BitVec 32}
    {v0 v1 v2 v3 v4 : Mat 1024 75} {l0 l1 l2 l3 l4 : S1024x75.Idx → BitVec 32} {row : Fin 1024 → EReal} {crow : Fin 8 → BitVec 32}
    (h0 : v0 = (near q0 K0).1 ∧ l0 = pick lab (near q0 K0).2) (h1 : v1 = (near q1 K1).1 ∧ l1 = pick lab (near q1 K1).2)
    (h2 : v2 = (near q2 K2).1 ∧ l2 = pick lab (near q2 K2).2) (h3 : v3 = (near q3 K3).1 ∧ l3 = pick lab (near q3 K3).2)
    (h4 : v4 = (near q4 K4).1 ∧ l4 = pick lab (near q4 K4).2) (hc : crow = fun l => cls (ix1 l))
    (hr : ∀ k : Fin 1024, row k = if h : k.val < 1000 then cali (ix1 (n0 := 1000) ⟨k.val, h⟩) else ⊥) :
    share 1024 row (alpha crow ![v0, v1, v2, v3, v4] ![l0, l1, l2, l3, l4]) = verdict q0 q1 q2 q3 q4 K0 K1 K2 K3 K4 cali lab cls := by
  obtain ⟨rfl, rfl⟩ := h0
  obtain ⟨rfl, rfl⟩ := h1
  obtain ⟨rfl, rfl⟩ := h2
  obtain ⟨rfl, rfl⟩ := h3
  obtain ⟨rfl, rfl⟩ := h4
  subst hc
  exact share_pad _ (fun k => cali (ix1 (n0 := 1000) k)) _ (alpha_nonneg _ _ _) hr

theorem kernel_value : W19 m ρ c (Proc.devRef .tc main_v56) = answer m c :=
  (W19_arr m ρ c 12).trans ((region6_12 (V18 m ρ) c).trans (gathered (entry1 m ρ c) (entry2 m ρ c) (entry3 m ρ c) (entry4 m ρ c) (entry5 m ρ c)
    (funext (cls_row m ρ c)) (cali_row m ρ c)))

end Cert.Knn
-- ==== Proof.Ref.lean ====
module

public import proofs.«01_k».proof.Proof.Kern
public import proofs.«01_k».proof.Proof.Gen.ReferenceIdeal.Run

@[expose] public section

set_option maxRecDepth 16384

noncomputable section

/-! What the reference leaves in its result, layer by layer, as functions of the arguments. -/

namespace Cert.Knn

open Idealize.ShloMosaic Idealize.ShloMosaic.TcCoe Cert.ReferenceIdeal Cert.ReferenceIdeal.Gen Cert.ReferenceIdeal.Value
open Idealize.ShloMosaic.StableHlo

/-- The reference's score: the distance negated. -/
def dist {A B D : Nat} (q : Mat A D) (K : Mat B D) (r : Fin A) (c : Fin B) : EReal :=
  -(((∑ x, q (ix2 r x) * q (ix2 r x)) + ∑ x, K (ix2 c x) * K (ix2 c x)) - 2 * ∑ x, q (ix2 r x) * K (ix2 c x))

theorem thousand_word : Ideal.ofBits .f32 1148846080#32 = ((1000 : ℝ) : EReal) := by
  simp [Ideal.ofBits, Ideal.ieee, -EReal.coe_mul]; norm_num

/-- The exponentials of a row's logits, the greatest taken off. -/
def expH (x : FVec Ideal S1024x8 .f32) : FVec Ideal S1024x8 .f32 :=
  Host.exp (subf x (broadcastInDim S1024x8 ![0, 1] bcast_S1024x1_S1024x8_0_1 (broadcastInDim S1024x1 ![0] bcast_S1024_S1024x1_0
    (maximumf (broadcastInDim S1024 ![] bcast_S_S1024 (constant S_ .f32 0xFF800000#32))
      (Host.reduce FloatOps.maximumf x (constant S_ .f32 0xFF800000#32) reducesTo_S1024x8_S1024_d1 h_S_)))))

theorem expH_eq (x : FVec Ideal S1024x8 .f32) :
    Host.divf (expH x) (broadcastInDim S1024x8 ![0, 1] bcast_S1024x1_S1024x8_0_1 (broadcastInDim S1024x1 ![0] bcast_S1024_S1024x1_0
      (Host.reduceAdd (expH x) (constant S_ .f32 0x00000000#32) reducesTo_S1024x8_S1024_d1 h_S_))) = softmax (A := 1024) (C := 8) x := by
  refine ext_ix2 fun r l => ?_
  unfold softmax rowMax
  pointwise [expH]
  simp only [bot_word, bot_sup_eq]

/-- A layer's votes: a weight for every neighbour of another label, summed. -/
def voteH (v : FVec Ideal S1024x75 .f32) (lab : IVec S1024x75 32) (cls : IVec S8 32) : FVec Ideal S1024x8 .f32 :=
  Host.reduceAdd (mulf (broadcastInDim S1024x75x8 ![0, 1, 2] bcast_S1024x75x1_S1024x75x8_0_1_2 (broadcastInDim S1024x75x1 ![0, 1] bcast_S1024x75_S1024x75x1_0_1
    (select (cmpf .ogt v (broadcastInDim S1024x75 ![] bcast_S_S1024x75 (constant S_ .f32 0x00000000#32)))
      (Host.divf (broadcastInDim S1024x75 ![] bcast_S_S1024x75 (constant S_ .f32 0x3F800000#32))
        (Host.sqrt (select (cmpf .ogt v (broadcastInDim S1024x75 ![] bcast_S_S1024x75 (constant S_ .f32 0x00000000#32))) v
          (broadcastInDim S1024x75 ![] bcast_S_S1024x75 (id (constant S_ .f32 0x3F800000#32))))))
      (broadcastInDim S1024x75 ![] bcast_S_S1024x75 (id (constant S_ .f32 0x00000000#32))))))
    (uitofp .f32 (cmpi .ne (broadcastInDim S1024x75x8 ![0, 1, 2] bcast_S1024x75x1_S1024x75x8_0_1_2 (broadcastInDim S1024x75x1 ![0, 1] bcast_S1024x75_S1024x75x1_0_1 lab))
      (broadcastInDim S1024x75x8 ![0, 1, 2] bcast_S1x1x8_S1024x75x8_0_1_2 (broadcastInDim S1x1x8 ![2] bcast_S8_S1x1x8_2 cls)))))
    (constant S_ .f32 0x00000000#32) reducesTo_S1024x75x8_S1024x8_d1 h_S_

/-- One over the square root of a positive number. -/
theorem div_sqrt (x : EReal) (h : 0 < x) : Ideal.div 1 (Ideal.sqrt x) = Ideal.rsqrt x := by
  induction x with
  | bot => simp at h
  | top =>
    show Ideal.div 1 ⊤ = 0
    simp [Ideal.div]
  | coe r =>
    have hr : 0 < r := by exact_mod_cast h
    have hs : Real.sqrt r ≠ 0 := (Real.sqrt_pos.2 hr).ne'
    show Ideal.div 1 (if r < 0 then (⊥ : EReal) else (Real.sqrt r : ℝ)) = if r < 0 then (⊥ : EReal) else if r = 0 then ⊤ else (((Real.sqrt r)⁻¹ : ℝ) : EReal)
    rw [if_neg hr.not_gt, if_neg hr.not_gt, if_neg hr.ne', Ideal.div_coe hs, one_mul, one_div]

theorem voteH_apply (s : FVec Ideal S1024x75 .f32) (lab : IVec S1024x75 32) (cls : IVec S8 32) (r : Fin 1024) (l : Fin 8) :
    voteH (maximumf (Host.negf s) (broadcastInDim S1024x75 ![] bcast_S_S1024x75 (constant S_ .f32 0x00000000#32))) lab cls (ix2 r l)
      = vote (A := 1024) (B := 75) s lab (cls (ix1 l)) r := by
  unfold vote
  pointwise [voteH]
  refine Finset.sum_congr rfl fun k _ => ?_
  rw [WordCmp.cmpi_ne_eq, uitofp_ind]
  congr 1
  unfold weight
  split_ifs with h
  · exact div_sqrt _ h
  · exact Ideal.ofBits_zero_f32

/-- Five layers' votes stacked. -/
def stackH (f : Fin 5 → FVec Ideal S1024x8 .f32) : FVec Ideal S1024x5x8 .f32 :=
  concatenate S1024x5x8 1 [⟨S1024x1x8, broadcastInDim S1024x1x8 ![0, 2] bcast_S1024x8_S1024x1x8_0_2 (f 0)⟩,
    ⟨S1024x1x8, broadcastInDim S1024x1x8 ![0, 2] bcast_S1024x8_S1024x1x8_0_2 (f 1)⟩, ⟨S1024x1x8, broadcastInDim S1024x1x8 ![0, 2] bcast_S1024x8_S1024x1x8_0_2 (f 2)⟩,
    ⟨S1024x1x8, broadcastInDim S1024x1x8 ![0, 2] bcast_S1024x8_S1024x1x8_0_2 (f 3)⟩, ⟨S1024x1x8, broadcastInDim S1024x1x8 ![0, 2] bcast_S1024x8_S1024x1x8_0_2 (f 4)⟩]
    concatenates_S1024x1x8_S1024x1x8_S1024x1x8_S1024x1x8_S1024x1x8_S1024x5x8_d1

theorem stackH_apply (f : Fin 5 → FVec Ideal S1024x8 .f32) (r : Fin 1024) (i : Fin 5) (l : Fin 8) : stackH f (ix3 r i l) = f i (ix2 r l) := by
  fin_cases i <;> pointwise [stackH]

/-- The credibilities of stacked votes. -/
def credH (v : FVec Ideal S1024x5x8 .f32) (cali : FVec Ideal S1000 .f32) : FVec Ideal S1024x8 .f32 :=
  Host.divf (Host.reduceAdd (uitofp .f32 (cmpf .oge (broadcastInDim S1024x8x1000 ![0, 1, 2] bcast_S1x1x1000_S1024x8x1000_0_1_2
      (broadcastInDim S1x1x1000 ![2] bcast_S1000_S1x1x1000_2 cali)) (broadcastInDim S1024x8x1000 ![0, 1, 2] bcast_S1024x8x1_S1024x8x1000_0_1_2
        (broadcastInDim S1024x8x1 ![0, 1] bcast_S1024x8_S1024x8x1_0_1 (Host.reduceAdd v (constant S_ .f32 0x00000000#32) reducesTo_S1024x5x8_S1024x8_d1 h_S_)))))
    (constant S_ .f32 0x00000000#32) reducesTo_S1024x8x1000_S1024x8_d2 h_S_) (broadcastInDim S1024x8 ![] bcast_S_S1024x8 (constant S_ .f32 0x447A0000#32))

theorem credH_apply (v : FVec Ideal S1024x5x8 .f32) (cali : FVec Ideal S1000 .f32) (r : Fin 1024) (l : Fin 8) :
    credH v cali (ix2 r l) = (∑ k : Fin 1000, ind ((∑ i : Fin 5, v (ix3 r i l)) ≤ cali (ix1 k))) * ((1000⁻¹ : ℝ) : EReal) := by
  pointwise [credH]
  rw [thousand_word, Ideal.div_coe (by norm_num), one_div]
  congr 1
  exact Finset.sum_congr rfl fun k _ => uitofp_ind _

section Values
variable (V0 : Valuation τ sig (Elt Ideal))

theorem ref_layer1 : res_main_v48 V0 = relu (layer (A := 83) (C := 128) (V0 (Proc.devRef .tc main_arg0)) (V0 (Proc.devRef .tc main_arg1)) (V0 (Proc.devRef .tc main_arg2))) := by
  refine ext_ix2 fun r l => ?_
  unfold relu layer dense
  pointwise [res_main_v48]

theorem ref_layer2 : res_main_v97 V0 = relu (layer (A := 128) (C := 128) (res_main_v48 V0) (V0 (Proc.devRef .tc main_arg3)) (V0 (Proc.devRef .tc main_arg4))) := by
  refine ext_ix2 fun r l => ?_
  unfold relu layer dense
  pointwise [res_main_v97]

theorem ref_layer3 : res_main_v146 V0 = relu (layer (A := 128) (C := 128) (res_main_v97 V0) (V0 (Proc.devRef .tc main_arg5)) (V0 (Proc.devRef .tc main_arg6))) := by
  refine ext_ix2 fun r l => ?_
  unfold relu layer dense
  pointwise [res_main_v146]

theorem ref_logits : res_main_v194 V0 = layer (A := 128) (C := 8) (res_main_v146 V0) (V0 (Proc.devRef .tc main_arg7)) (V0 (Proc.devRef .tc main_arg8)) := by
  refine ext_ix2 fun r l => ?_
  unfold layer dense
  pointwise [res_main_v194]

theorem ref_probs : res_main_v205 V0 = softmax (res_main_v194 V0) := expH_eq _

theorem ref_score1 (r : Fin 1024) (l : Fin 100000) : res_main_v14 V0 (ix2 r l) = dist (D := 83) (V0 (Proc.devRef .tc main_arg0)) (V0 (Proc.devRef .tc main_arg9)) r l := by
  unfold dist
  pointwise [res_main_v14]
  rw [two_word]

theorem ref_score2 (r : Fin 1024) (l : Fin 100000) : res_main_v63 V0 (ix2 r l) = dist (D := 128) (res_main_v48 V0) (V0 (Proc.devRef .tc main_arg10)) r l := by
  unfold dist
  pointwise [res_main_v63]
  rw [two_word]

theorem ref_score3 (r : Fin 1024) (l : Fin 100000) : res_main_v112 V0 (ix2 r l) = dist (D := 128) (res_main_v97 V0) (V0 (Proc.devRef .tc main_arg11)) r l := by
  unfold dist
  pointwise [res_main_v112]
  rw [two_word]

theorem ref_score4 (r : Fin 1024) (l : Fin 100000) : res_main_v161 V0 (ix2 r l) = dist (D := 128) (res_main_v146 V0) (V0 (Proc.devRef .tc main_arg12)) r l := by
  unfold dist
  pointwise [res_main_v161]
  rw [two_word]

theorem ref_score5 (r : Fin 1024) (l : Fin 100000) : res_main_v220 V0 (ix2 r l) = dist (D := 8) (res_main_v205 V0) (V0 (Proc.devRef .tc main_arg13)) r l := by
  unfold dist
  pointwise [res_main_v220]
  rw [two_word]

end Values

end Cert.Knn
-- ==== Proof.Finite.lean ====
module

public import proofs.«01_k».proof.Proof.Ref

@[expose] public section

noncomputable section

/-! Finite keys: where a query is finite the two forms of the score agree, and where it isn't no neighbour has a weight in either. -/

namespace Cert.Knn

open Idealize.ShloMosaic

/-- A finite value. -/
def IsReal (x : EReal) : Prop := ∃ r : ℝ, x = r

theorem IsReal.mul {x y : EReal} : IsReal x → IsReal y → IsReal (x * y) := by
  rintro ⟨a, rfl⟩ ⟨b, rfl⟩
  exact ⟨a * b, (EReal.coe_mul a b).symm⟩

theorem coe_sum {ι : Type} (s : Finset ι) (g : ι → ℝ) : ((∑ i ∈ s, g i : ℝ) : EReal) = ∑ i ∈ s, (g i : EReal) := by
  classical
  induction s using Finset.induction_on with
  | empty => rfl
  | insert a s h ih => rw [Finset.sum_insert h, Finset.sum_insert h, EReal.coe_add, ih]

theorem IsReal.sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

theorem isReal_of_ne {x : EReal} (h : x ≠ ⊥) (h' : x ≠ ⊤) : IsReal x := ⟨x.toReal, (EReal.coe_toReal h' h).symm⟩

/-- Where a query's row and the keys are finite the distance negated is the score. -/
theorem dist_eq_score {A B D : Nat} (q : Mat A D) (K : Mat B D) (r : Fin A) (hq : ∀ x, IsReal (q (ix2 r x))) (hK : ∀ j, IsReal (K j)) (c : Fin B) :
    dist q K r c = score q K r c := by
  unfold dist score
  obtain ⟨a, ha⟩ := IsReal.sum Finset.univ (fun x => q (ix2 r x) * q (ix2 r x)) fun _ => (hq _).mul (hq _)
  obtain ⟨b, hb⟩ := IsReal.sum Finset.univ (fun x => K (ix2 c x) * K (ix2 c x)) fun _ => (hK _).mul (hK _)
  obtain ⟨d, hd⟩ := IsReal.sum Finset.univ (fun x => q (ix2 r x) * K (ix2 c x)) fun _ => (hq _).mul (hK _)
  rw [ha, hb, hd, show (2 : EReal) = ((2 : ℝ) : EReal) from rfl, ← EReal.coe_add, ← EReal.coe_mul, ← EReal.coe_sub, ← EReal.coe_neg, ← EReal.coe_sub]
  congr 1
  ring

theorem mul_self_nonneg' (x : EReal) : 0 ≤ x * x := by
  induction x with
  | bot => simp
  | top => simp
  | coe r => exact_mod_cast mul_self_nonneg r

/-- The squares of a row with an infinite entry sum to +∞. -/
theorem squares_top {A D : Nat} (q : Mat A D) (r : Fin A) (x : Fin D) (hx : ¬ IsReal (q (ix2 r x))) : (∑ x, q (ix2 r x) * q (ix2 r x)) = ⊤ := by
  have h : q (ix2 r x) * q (ix2 r x) = ⊤ := by
    revert hx
    induction q (ix2 r x) with
    | bot => simp
    | top => simp
    | coe a => exact fun h => (h ⟨a, rfl⟩).elim
  exact top_le_iff.1 (h ▸ Finset.single_le_sum (f := fun x => q (ix2 r x) * q (ix2 r x)) (fun i _ => mul_self_nonneg' _) (Finset.mem_univ x))

theorem weight_bot : weight ⊥ = 0 := by
  unfold weight
  split_ifs
  · rw [EReal.neg_bot, max_eq_left le_top]; rfl
  · rfl

theorem weight_top : weight ⊤ = 0 := by
  simp [weight]

/-- A row with an infinite entry gives no key a weight, by the score. -/
theorem weight_score {A B D : Nat} (q : Mat A D) (K : Mat B D) (r : Fin A) (x : Fin D) (hx : ¬ IsReal (q (ix2 r x))) (hK : ∀ j, IsReal (K j)) (c : Fin B) :
    weight (score q K r c) = 0 := by
  unfold score
  obtain ⟨b, hb⟩ := IsReal.sum Finset.univ (fun x => K (ix2 c x) * K (ix2 c x)) fun _ => (hK _).mul (hK _)
  rw [squares_top q r x hx, hb, EReal.top_add_coe, sub_eq_add_neg, EReal.neg_top, EReal.add_bot, weight_bot]

/-- Nor by the distance negated. -/
theorem weight_dist {A B D : Nat} (q : Mat A D) (K : Mat B D) (r : Fin A) (x : Fin D) (hx : ¬ IsReal (q (ix2 r x))) (hK : ∀ j, IsReal (K j)) (c : Fin B) :
    weight (dist q K r c) = 0 := by
  unfold dist
  obtain ⟨b, hb⟩ := IsReal.sum Finset.univ (fun x => K (ix2 c x) * K (ix2 c x)) fun _ => (hK _).mul (hK _)
  rw [squares_top q r x hx, hb, EReal.top_add_coe]
  generalize 2 * (∑ x, q (ix2 r x) * K (ix2 c x)) = y
  induction y with
  | bot => simp [weight_bot]
  | top => simp [sub_eq_add_neg, weight_top]
  | coe a => simp [weight_bot]

/-- A row's labels depend on its positions only. -/
theorem pick_congr (lab : Cert.KernelIdeal.S100000.Idx → BitVec 32) (i i' : Cert.KernelIdeal.S1024x75.Idx → BitVec 32) (r : Fin 1024) (k : Fin 75)
    (h : i (ix2 r k) = i' (ix2 r k)) : pick lab i (ix2 r k) = pick lab i' (ix2 r k) := by
  have g := fun x => ValueIdx.gather_take_apply (N := 100000) (R := 1024) (C := 75) (w := 32) (by norm_num)
    Cert.KernelIdeal.Gen.facts₀.gather_S100000_S1024x75x1_S1024x75_n_0_n_n_0_2_1_wf lab x (ix2 r k)
  have e : ∀ f : Cert.KernelIdeal.S1024x75.Idx → BitVec 32, broadcastInDim Cert.KernelIdeal.S1024x75x1 ![0, 1] Cert.KernelIdeal.Gen.bcast_S1024x75_S1024x75x1_0_1 f
      (ValueIdx.takeIdx (R := 1024) (C := 75) (ix2 r k)) = f (ix2 r k) := fun f => by
    pointwise
  refine (g _).trans (Eq.trans (congrArg (fun n => lab (ix1 n)) (Fin.ext ?_)) (g _).symm)
  dsimp only
  rw [e, e]
  unfold select cmpi addi
  rw [h]

/-- A row's votes by the distances are those by the scores, the keys being finite. -/
theorem vote_eq {D : Nat} (s : Mat 1024 100000) (q : Mat 1024 D) (K : Mat 100000 D) (h : ∀ r l, s (ix2 r l) = dist q K r l) (hK : ∀ j, IsReal (K j))
    (lab : Cert.KernelIdeal.S100000.Idx → BitVec 32) (cls : BitVec 32) (r : Fin 1024)
    (hs : (⟨2, ![1024, 100000]⟩ : Shape).Slices (fun _ => 0) ⟨2, ![1024, 75]⟩) :
    vote (Host.topK ⟨2, ![1024, 75]⟩ 1 (FloatOps.cmpfTotal (F := Ideal) (φ := .f32) .gt) s hs).1
        (pick lab (Host.topK ⟨2, ![1024, 75]⟩ 1 (FloatOps.cmpfTotal (F := Ideal) (φ := .f32) .gt) s hs).2) cls r
      = vote (near q K).1 (pick lab (near q K).2) cls r := by
  unfold vote
  have n1 : ∀ k : Fin 75, (near q K).1 (ix2 r k) = score q K r (rank (FloatOps.cmpfTotal (F := Ideal) (φ := .f32) .gt) (sc q K) r (k.castLE (by norm_num))) :=
    fun k => topK_fst_apply _ (sc q K) _ (by norm_num) r k
  have n2 : ∀ k : Fin 75, (near q K).2 (ix2 r k) = BitVec.ofNat 32 (rank (FloatOps.cmpfTotal (F := Ideal) (φ := .f32) .gt) (sc q K) r (k.castLE (by norm_num))).val :=
    fun k => topK_snd_apply _ (sc q K) _ (by norm_num) r k
  refine Finset.sum_congr rfl fun k _ => ?_
  by_cases hq : ∀ x, IsReal (q (ix2 r x))
  · have e : ∀ l, s (ix2 r l) = sc q K (ix2 r l) := fun l => (h r l).trans (dist_eq_score q K r hq hK l)
    have er : rank (FloatOps.cmpfTotal (F := Ideal) (φ := .f32) .gt) s r = rank (FloatOps.cmpfTotal (F := Ideal) (φ := .f32) .gt) (sc q K) r := by
      funext l
      unfold rank
      simp only [e]
    rw [pick_congr lab _ (near q K).2 r k (by rw [topK_snd_apply _ s hs (by norm_num), er, n2]), topK_fst_apply _ s hs (by norm_num), er, e, n1]
    rfl
  · push Not at hq
    obtain ⟨x, hx⟩ := hq
    rw [topK_fst_apply _ s hs (by norm_num), h, weight_dist q K r x hx hK, n1, weight_score q K r x hx hK, zero_mul, zero_mul]

end Cert.Knn
-- ==== Proof.Same.lean ====
module

public import proofs.«01_k».proof.Proof.Finite

@[expose] public section

set_option maxRecDepth 16384

noncomputable section

/-! On finite keys the reference's result is the same function of the arguments as the kernel's. -/

namespace Cert.Knn

open Idealize.ShloMosaic Idealize.ShloMosaic.TcCoe Cert.ReferenceIdeal Cert.ReferenceIdeal.Gen Cert.ReferenceIdeal.Value
open Idealize.ShloMosaic.StableHlo

section Values
variable (V0 : Valuation τ sig (Elt Ideal))

/-- The reference's result, its operations grouped. -/
theorem result_eq : credH (res_main_v255 V0) (V0 (Proc.devRef .tc main_arg14))
    = credH (stackH ![voteH (res_main_v17 V0) (pick (V0 (Proc.devRef .tc main_arg15)) (res_main_indices V0)) (V0 (Proc.devRef .tc main_arg16)),
        voteH (res_main_v66 V0) (pick (V0 (Proc.devRef .tc main_arg15)) (res_main_indices_14 V0)) (V0 (Proc.devRef .tc main_arg16)),
        voteH (res_main_v115 V0) (pick (V0 (Proc.devRef .tc main_arg15)) (res_main_indices_28 V0)) (V0 (Proc.devRef .tc main_arg16)),
        voteH (res_main_v164 V0) (pick (V0 (Proc.devRef .tc main_arg15)) (res_main_indices_42 V0)) (V0 (Proc.devRef .tc main_arg16)),
        voteH (res_main_v223 V0) (pick (V0 (Proc.devRef .tc main_arg15)) (res_main_indices_59 V0)) (V0 (Proc.devRef .tc main_arg16))])
      (V0 (Proc.devRef .tc main_arg14)) := rfl

end Values

/-- The nearest keys' votes over five layers of scores, and their credibilities, as the kernel's. -/
theorem credH_eq {q0 : Mat 1024 83} {q1 q2 q3 : Mat 1024 128} {q4 : Mat 1024 8} {K0 : Mat 100000 83} {K1 K2 K3 : Mat 100000 128} {K4 : Mat 100000 8}
    (cali : FVec Ideal S1000 .f32) (lab : IVec S100000 32) (cls : IVec S8 32) {f : Fin 5 → FVec Ideal S1024x8 .f32}
    (h0 : ∀ r l, f 0 (ix2 r l) = vote (near q0 K0).1 (pick lab (near q0 K0).2) (cls (ix1 l)) r)
    (h1 : ∀ r l, f 1 (ix2 r l) = vote (near q1 K1).1 (pick lab (near q1 K1).2) (cls (ix1 l)) r)
    (h2 : ∀ r l, f 2 (ix2 r l) = vote (near q2 K2).1 (pick lab (near q2 K2).2) (cls (ix1 l)) r)
    (h3 : ∀ r l, f 3 (ix2 r l) = vote (near q3 K3).1 (pick lab (near q3 K3).2) (cls (ix1 l)) r)
    (h4 : ∀ r l, f 4 (ix2 r l) = vote (near q4 K4).1 (pick lab (near q4 K4).2) (cls (ix1 l)) r) :
    credH (stackH f) cali = verdict q0 q1 q2 q3 q4 K0 K1 K2 K3 K4 cali lab cls := by
  refine ext_ix2 fun r l => ?_
  rw [credH_apply]
  unfold verdict share
  congr 1
  refine Finset.sum_congr rfl fun k _ => ?_
  have e : (∑ i, stackH f (ix3 r i l)) = alpha (fun l => cls (ix1 l)) ![(near q0 K0).1, (near q1 K1).1, (near q2 K2).1, (near q3 K3).1, (near q4 K4).1]
      ![pick lab (near q0 K0).2, pick lab (near q1 K1).2, pick lab (near q2 K2).2, pick lab (near q3 K3).2, pick lab (near q4 K4).2] r l := by
    unfold alpha
    simp only [stackH_apply, Fin.sum_univ_five, h0, h1, h2, h3, h4]
    rfl
  rw [e]
  rfl

/-- The reference's result of keys that are finite. -/
theorem ref_value (V0 : Valuation τ sig (Elt Ideal)) {x : Mat 1024 83} {W1 : Mat 83 128} {b1 : S128.Idx → EReal} {W2 : Mat 128 128} {b2 : S128.Idx → EReal}
    {W3 : Mat 128 128} {b3 : S128.Idx → EReal} {W4 : Mat 128 8} {b4 : S8.Idx → EReal} {K0 : Mat 100000 83} {K1 K2 K3 : Mat 100000 128} {K4 : Mat 100000 8}
    {cali : S1000.Idx → EReal} {lab : S100000.Idx → BitVec 32} {cls : S8.Idx → BitVec 32}
    (e0 : V0 (Proc.devRef .tc main_arg0) = x) (e1 : V0 (Proc.devRef .tc main_arg1) = W1) (e2 : V0 (Proc.devRef .tc main_arg2) = b1)
    (e3 : V0 (Proc.devRef .tc main_arg3) = W2) (e4 : V0 (Proc.devRef .tc main_arg4) = b2) (e5 : V0 (Proc.devRef .tc main_arg5) = W3)
    (e6 : V0 (Proc.devRef .tc main_arg6) = b3) (e7 : V0 (Proc.devRef .tc main_arg7) = W4) (e8 : V0 (Proc.devRef .tc main_arg8) = b4)
    (e9 : V0 (Proc.devRef .tc main_arg9) = K0) (e10 : V0 (Proc.devRef .tc main_arg10) = K1) (e11 : V0 (Proc.devRef .tc main_arg11) = K2)
    (e12 : V0 (Proc.devRef .tc main_arg12) = K3) (e13 : V0 (Proc.devRef .tc main_arg13) = K4) (e14 : V0 (Proc.devRef .tc main_arg14) = cali)
    (e15 : V0 (Proc.devRef .tc main_arg15) = lab) (e16 : V0 (Proc.devRef .tc main_arg16) = cls)
    (f9 : ∀ j, IsReal (K0 j)) (f10 : ∀ j, IsReal (K1 j)) (f11 : ∀ j, IsReal (K2 j)) (f12 : ∀ j, IsReal (K3 j)) (f13 : ∀ j, IsReal (K4 j)) :
    credH (res_main_v255 V0) (V0 (Proc.devRef .tc main_arg14)) =
      verdict x (relu (layer x W1 b1)) (relu (layer (relu (layer x W1 b1)) W2 b2)) (relu (layer (relu (layer (relu (layer x W1 b1)) W2 b2)) W3 b3))
        (softmax (layer (relu (layer (relu (layer (relu (layer x W1 b1)) W2 b2)) W3 b3)) W4 b4)) K0 K1 K2 K3 K4 cali lab cls := by
  have l1 : res_main_v48 V0 = relu (layer x W1 b1) := by rw [ref_layer1, e0, e1, e2]
  have l2 : res_main_v97 V0 = relu (layer (relu (layer x W1 b1)) W2 b2) := by rw [ref_layer2, l1, e3, e4]
  have l3 : res_main_v146 V0 = relu (layer (relu (layer (relu (layer x W1 b1)) W2 b2)) W3 b3) := by rw [ref_layer3, l2, e5, e6]
  have l4 : res_main_v205 V0 = softmax (layer (relu (layer (relu (layer (relu (layer x W1 b1)) W2 b2)) W3 b3)) W4 b4) := by rw [ref_probs, ref_logits, l3, e7, e8]
  have s1 : ∀ r l, res_main_v14 V0 (ix2 r l) = dist x K0 r l := fun r l => by rw [ref_score1, e0, e9]
  have s2 : ∀ r l, res_main_v63 V0 (ix2 r l) = dist (relu (layer x W1 b1)) K1 r l := fun r l => by rw [ref_score2, l1, e10]
  have s3 : ∀ r l, res_main_v112 V0 (ix2 r l) = dist _ K2 r l := fun r l => by rw [ref_score3, l2, e11]
  have s4 : ∀ r l, res_main_v161 V0 (ix2 r l) = dist _ K3 r l := fun r l => by rw [ref_score4, l3, e12]
  have s5 : ∀ r l, res_main_v220 V0 (ix2 r l) = dist _ K4 r l := fun r l => by rw [ref_score5, l4, e13]
  rw [result_eq, e14, e15, e16]
  exact credH_eq cali lab cls (fun r l => (voteH_apply _ _ _ r l).trans (vote_eq _ _ _ s1 f9 _ _ r _))
    (fun r l => (voteH_apply _ _ _ r l).trans (vote_eq _ _ _ s2 f10 _ _ r _)) (fun r l => (voteH_apply _ _ _ r l).trans (vote_eq _ _ _ s3 f11 _ _ r _))
    (fun r l => (voteH_apply _ _ _ r l).trans (vote_eq _ _ _ s4 f12 _ _ r _)) (fun r l => (voteH_apply _ _ _ r l).trans (vote_eq _ _ _ s5 f13 _ _ r _))

end Cert.Knn
-- ==== Proof.Pre.lean ====
module

public import proofs.«01_k».proof.Defs
public import proofs.«01_k».proof.Proof.Finite

@[expose] public section

noncomputable section

/-! What the precondition says: every entry of the arguments it reads is finite. -/

namespace Cert.Knn

open Idealize.ShloMosaic

theorem pre_facts : Cert.Pre_finite.Facts := by
  constructor <;> decide

theorem inf_word : Ideal.ofBits .f32 2139095040#32 = ⊤ := by
  simp [Ideal.ofBits, Ideal.ieee, -EReal.coe_mul]

/-- An array whose mask is all ones holds finite entries. -/
theorem mask_real {s : Shape} (x : FVec Ideal s .f32) (hb : Cert.Pre_finite.S_.BroadcastsInDim s (![] : Fin 0 → Fin s.rank))
    (h : cmpf .olt (Host.absf x) (broadcastInDim s ![] hb (constant Cert.Pre_finite.S_ .f32 0x7F800000#32)) = fun _ => 1#1) (j : s.Idx) : IsReal (x j) := by
  have h' := congrFun h j
  have e : (max (x j) (-x j)) < Ideal.ofBits .f32 2139095040#32 := by
    by_contra hn
    have : BitVec.ofBool (decide ((max (x j) (-x j)) < Ideal.ofBits .f32 2139095040#32)) = 1#1 := h'
    simp [hn] at this
  rw [inf_word, max_lt_iff] at e
  exact isReal_of_ne (fun hx => by simp [hx] at e) e.1.ne

end Cert.Knn
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Run
public import proofs.«01_k».proof.Proof.Same
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem Cert.Knn

/-- The kernel's run: its result and its arguments at the end. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
        r.2.mem ((c.tc : Thread Cert.KernelIdeal.nD Cert.KernelIdeal.τ).loc Cert.KernelIdeal.main_v56) = answer m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16) :=
  (θ_run _ _ _).mono (fun r h c =>
    have k := fun b hb => h c (Proc.devRef .tc b) (Cert.KernelIdeal.Gen.mem_uc b hb)
    ⟨(k Cert.KernelIdeal.main_v56 (by decide)).trans (kernel_value m ρ c),
      (k Cert.KernelIdeal.main_arg0 (by decide)).trans (Cert.KernelIdeal.Gen.W19_main_arg0 m ρ c),
      (k Cert.KernelIdeal.main_arg1 (by decide)).trans (Cert.KernelIdeal.Gen.W19_main_arg1 m ρ c),
      (k Cert.KernelIdeal.main_arg2 (by decide)).trans (Cert.KernelIdeal.Gen.W19_main_arg2 m ρ c),
      (k Cert.KernelIdeal.main_arg3 (by decide)).trans (Cert.KernelIdeal.Gen.W19_main_arg3 m ρ c),
      (k Cert.KernelIdeal.main_arg4 (by decide)).trans (Cert.KernelIdeal.Gen.W19_main_arg4 m ρ c),
      (k Cert.KernelIdeal.main_arg5 (by decide)).trans (Cert.KernelIdeal.Gen.W19_main_arg5 m ρ c),
      (k Cert.KernelIdeal.main_arg6 (by decide)).trans (Cert.KernelIdeal.Gen.W19_main_arg6 m ρ c),
      (k Cert.KernelIdeal.main_arg7 (by decide)).trans (Cert.KernelIdeal.Gen.W19_main_arg7 m ρ c),
      (k Cert.KernelIdeal.main_arg8 (by decide)).trans (Cert.KernelIdeal.Gen.W19_main_arg8 m ρ c),
      (k Cert.KernelIdeal.main_arg9 (by decide)).trans (Cert.KernelIdeal.Gen.W19_main_arg9 m ρ c),
      (k Cert.KernelIdeal.main_arg10 (by decide)).trans (Cert.KernelIdeal.Gen.W19_main_arg10 m ρ c),
      (k Cert.KernelIdeal.main_arg11 (by decide)).trans (Cert.KernelIdeal.Gen.W19_main_arg11 m ρ c),
      (k Cert.KernelIdeal.main_arg12 (by decide)).trans (Cert.KernelIdeal.Gen.W19_main_arg12 m ρ c),
      (k Cert.KernelIdeal.main_arg13 (by decide)).trans (Cert.KernelIdeal.Gen.W19_main_arg13 m ρ c),
      (k Cert.KernelIdeal.main_arg14 (by decide)).trans (Cert.KernelIdeal.Gen.W19_main_arg14 m ρ c),
      (k Cert.KernelIdeal.main_arg15 (by decide)).trans (Cert.KernelIdeal.Gen.W19_main_arg15 m ρ c),
      (k Cert.KernelIdeal.main_arg16 (by decide)).trans (Cert.KernelIdeal.Gen.W19_main_arg16 m ρ c)⟩) (ends m ρ)

/-- The reference's run on arguments that are the kernel's, the keys finite: its result the kernel's, its arguments unchanged. -/
theorem reference_run [hf : Cert.Pre_finite.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Cert.Pre_KernelIdeal_finite m)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    credH (Cert.ReferenceIdeal.Value.res_main_v255 (StableHlo.launchContents m' c)) (StableHlo.launchContents m' c (Proc.devRef .tc Cert.ReferenceIdeal.main_arg14)) = answer m c := by
  obtain ⟨h0, h1, h2, h3, h4, h5, h6, h7, h8, h9, h10, h11, h12, h13, h14, h15, h16⟩ := h
  obtain ⟨p9, p10, p11, p12, p13⟩ := hp c
  exact ref_value (StableHlo.launchContents m' c) h0 h1 h2 h3 h4 h5 h6 h7 h8 h9 h10 h11 h12 h13 h14 h15 h16
    (mask_real _ _ p9) (mask_real _ _ p10) (mask_real _ _ p11) (mask_real _ _ p12) (mask_real _ _ p13)

/-- The reference ends with its arguments unchanged and every counter at zero. -/
theorem reference_frame : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, pre_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    IdealRules.named_const.statement Cert.KernelIdeal.κ "ncali" .f32 0x3A83126F#32 ((1000⁻¹ : ℝ) : EReal) rfl,
    fun m g m' g' hp h => ⟨answer m, kernel_run m g, (θ_run _ _ _).mono
      (fun r k c => ⟨(k c).1.trans (reference_run (hf := pre_facts) m m' c hp (h c)), (k c).2⟩) (Cert.ReferenceIdeal.Value.run (F := Ideal) m' g')⟩⟩

end Cert.Proof

end
